-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_finite_inputs : Cert.Pre_finite_inputs.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
-- ==== Pre_finite_inputs.lean ====
abbrev S65536x1024 : Shape := ⟨2, ![65536, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bcast_S_S65536x1024 : S_.BroadcastsInDim S65536x1024 (![] : Fin 0 → Fin S65536x1024.rank)
  bcast_S_S1024x2816 : S_.BroadcastsInDim S1024x2816 (![] : Fin 0 → Fin S1024x2816.rank)

variable [Facts]

def fn {F : FTy → Type} [FloatOps F] (main_arg0 : FVec F S65536x1024 .f32) (main_arg1 : FVec F S1024x2816 .f32) (main_arg2 : FVec F S1024x2816 .f32) (main_arg3 : FVec F S2816x1024 .f32) (main_arg4 : FVec F S1x1024 .f32) (main_arg5 : FVec F S1x1024 .f32) : IVec S65536x1024 1 × IVec S1024x2816 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  (main_v2, main_v5)
-- ==== Pre_finite_scores.lean ====
abbrev S16 : Shape := ⟨1, ![16]⟩
abbrev S65536x1024 : Shape := ⟨2, ![65536, 1024]⟩
abbrev S8x8192x16x64 : Shape := ⟨4, ![8, 8192, 16, 64]⟩
abbrev S8x8192x4x64 : Shape := ⟨4, ![8, 8192, 4, 64]⟩
abbrev S65536x2048 : Shape := ⟨2, ![65536, 2048]⟩
abbrev S1024x1024 : Shape := ⟨2, ![1024, 1024]⟩
abbrev S1x1024 : Shape := ⟨2, ![1, 1024]⟩
abbrev S_ : Shape := ⟨0, ![]⟩

class Facts : Prop where
  bcast_S_S16 : S_.BroadcastsInDim S16 (![] : Fin 0 → Fin S16.rank)
  bcast_S_S8x8192x16x64 : S_.BroadcastsInDim S8x8192x16x64 (![] : Fin 0 → Fin S8x8192x16x64.rank)
  bcast_S_S8x8192x4x64 : S_.BroadcastsInDim S8x8192x4x64 (![] : Fin 0 → Fin S8x8192x4x64.rank)

variable [Facts]

def fn {F : FTy → Type} [FloatOps F] (main_arg0 : FVec F S16 .f32) (main_arg1 : FVec F S65536x1024 .f32) (main_arg2 : FVec F S8x8192x16x64 .f32) (main_arg3 : FVec F S8x8192x4x64 .f32) (main_arg4 : FVec F S8x8192x4x64 .f32) (main_arg5 : FVec F S65536x1024 .f32) (main_arg6 : FVec F S65536x2048 .f32) (main_arg7 : FVec F S1024x1024 .f32) (main_arg8 : FVec F S1024x1024 .f32) (main_arg9 : FVec F S1024x1024 .f32) (main_arg10 : FVec F S1x1024 .f32) (main_arg11 : FVec F S1x1024 .f32) : IVec S16 1 × IVec S8x8192x16x64 1 × IVec S8x8192x4x64 1 :=
  let main_cst : FVec F S_ .f32 := constant S_ .f32 0x7F800000#32
  let main_v0 : FVec F S16 .f32 := broadcastInDim S16 ![] bcast_S_S16 main_cst
  let main_v1 : IVec S16 1 := cmpf .olt main_arg0 main_v0
  let main_v2 : FVec F S8x8192x16x64 .f32 := Host.absf main_arg2
  let main_cst_0 : FVec F S_ .f32 := constant S_ .f32 0x7F800000#32
  let main_v3 : FVec F S8x8192x16x64 .f32 := broadcastInDim S8x8192x16x64 ![] bcast_S_S8x8192x16x64 main_cst_0
  let main_v4 : IVec S8x8192x16x64 1 := cmpf .olt main_v2 main_v3
  let main_v5 : FVec F S8x8192x4x64 .f32 := Host.absf main_arg3
  let main_cst_1 : FVec F S_ .f32 := constant S_ .f32 0x7F800000#32
  let main_v6 : FVec F S8x8192x4x64 .f32 := broadcastInDim S8x8192x4x64 ![] bcast_S_S8x8192x4x64 main_cst_1
  let main_v7 : IVec S8x8192x4x64 1 := cmpf .olt main_v5 main_v6
  (main_v1, main_v4, main_v7)
-- ==== Kernel.lean ====
abbrev S16 : Shape := ⟨1, ![16]⟩
abbrev S65536x1024 : Shape := ⟨2, ![65536, 1024]⟩
abbrev S8x8192x16x64 : Shape := ⟨4, ![8, 8192, 16, 64]⟩
abbrev S8x8192x4x64 : Shape := ⟨4, ![8, 8192, 4, 64]⟩
abbrev S65536x2048 : Shape := ⟨2, ![65536, 2048]⟩
abbrev S1024x1024 : Shape := ⟨2, ![1024, 1024]⟩
abbrev S1x1024 : Shape := ⟨2, ![1, 1024]⟩
abbrev S_ : Shape := ⟨0, ![]⟩
abbrev S1024x65536 : Shape := ⟨2, ![1024, 65536]⟩
abbrev S65536x256 : Shape := ⟨2, ![65536, 256]⟩
abbrev S256x65536 : Shape := ⟨2, ![256, 65536]⟩
abbrev S1024x256 : Shape := ⟨2, ![1024, 256]⟩
abbrev S128x256 : Shape := ⟨2, ![128, 256]⟩
abbrev S256x1024 : Shape := ⟨2, ![256, 1024]⟩
abbrev S256x128 : Shape := ⟨2, ![256, 128]⟩
abbrev S1024 : Shape := ⟨1, ![1024]⟩
abbrev S1024x1 : Shape := ⟨2, ![1024, 1]⟩
abbrev S128x512 : Shape := ⟨2, ![128, 512]⟩
abbrev S64x128 : Shape := ⟨2, ![64, 128]⟩
abbrev S256x256 : Shape := ⟨2, ![256, 256]⟩
abbrev S128x128 : Shape := ⟨2, ![128, 128]⟩
abbrev S256x512 : Shape := ⟨2, ![256, 512]⟩
abbrev S1 : Shape := ⟨1, ![1]⟩
abbrev S1x128 : Shape := ⟨2, ![1, 128]⟩
abbrev S1x512 : Shape := ⟨2, ![1, 512]⟩
abbrev S512 : Shape := ⟨1, ![512]⟩
abbrev S64x256 : Shape := ⟨2, ![64, 256]⟩
abbrev S64x512 : Shape := ⟨2, ![64, 512]⟩
abbrev S8x128 : Shape := ⟨2, ![8, 128]⟩
abbrev S128x1024 : Shape := ⟨2, ![128, 1024]⟩
abbrev S128 : Shape := ⟨1, ![128]⟩
abbrev S128x1 : Shape := ⟨2, ![128, 1]⟩
abbrev S8x256 : Shape := ⟨2, ![8, 256]⟩
abbrev S1016x256 : Shape := ⟨2, ![1016, 256]⟩

abbrev nBuf : Space → Nat
  | .hbm => 34
  | .vmem => 27
  | .smem => 1
  | _ => 0

abbrev bufTy : (tb : Table) → Fin (tcTables nBuf tb) → BufTy
  | .hbm, ⟨0, _⟩ => ⟨S16, .f32⟩
  | .hbm, ⟨1, _⟩ => ⟨S65536x1024, .f32⟩
  | .hbm, ⟨2, _⟩ => ⟨S8x8192x16x64, .f32⟩
  | .hbm, ⟨3, _⟩ => ⟨S8x8192x4x64, .f32⟩
  | .hbm, ⟨4, _⟩ => ⟨S8x8192x4x64, .f32⟩
  | .hbm, ⟨5, _⟩ => ⟨S65536x1024, .f32⟩
  | .hbm, ⟨6, _⟩ => ⟨S65536x2048, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S65536x1024, .f32⟩
  | .hbm, ⟨13, _⟩ => ⟨S_, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S1024x65536, .f32⟩
  | .hbm, ⟨22, _⟩ => ⟨S1024x65536, .bf16⟩
  | .hbm, ⟨23, _⟩ => ⟨S65536x256, .f32⟩
  | .hbm, ⟨24, _⟩ => ⟨S65536x256, .bf16⟩
  | .hbm, ⟨25, _⟩ => ⟨S65536x256, .f32⟩
  | .hbm, ⟨26, _⟩ => ⟨S256x65536, .f32⟩
  | .hbm, ⟨27, _⟩ => ⟨S256x65536, .bf16⟩
  | .hbm, ⟨28, _⟩ => ⟨S65536x1024, .bf16⟩
  | .hbm, ⟨29, _⟩ => ⟨S65536x2048, .bf16⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S128x256, .bf16⟩
  | .local _ .vmem, ⟨7, _⟩ => ⟨S128x256, .bf16⟩
  | .local _ .vmem, ⟨8, _⟩ => ⟨S256x1024, .bf16⟩
  | .local _ .vmem, ⟨9, _⟩ => ⟨S256x1024, .bf16⟩
  | .local _ .vmem, ⟨10, _⟩ => ⟨S256x128, .bf16⟩
  | .local _ .vmem, ⟨11, _⟩ => ⟨S256x128, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .eq arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .slt arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![c0_i32_0.toNat, v3.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16 : Shape := ⟨1, ![16]⟩
abbrev S65536x1024 : Shape := ⟨2, ![65536, 1024]⟩
abbrev S8x8192x16x64 : Shape := ⟨4, ![8, 8192, 16, 64]⟩
abbrev S8x8192x4x64 : Shape := ⟨4, ![8, 8192, 4, 64]⟩
abbrev S65536x2048 : Shape := ⟨2, ![65536, 2048]⟩
abbrev S1024x1024 : Shape := ⟨2, ![1024, 1024]⟩
abbrev S1x1024 : Shape := ⟨2, ![1, 1024]⟩
abbrev S8x64x128x4x4x64 : Shape := ⟨6, ![8, 64, 128, 4, 4, 64]⟩
abbrev S_ : Shape := ⟨0, ![]⟩
abbrev S8x8320x4x64 : Shape := ⟨4, ![8, 8320, 4, 64]⟩
abbrev S8x65x128x4x64 : Shape := ⟨5, ![8, 65, 128, 4, 64]⟩
abbrev S8x64x128x4x64 : Shape := ⟨5, ![8, 64, 128, 4, 64]⟩
abbrev S8x64x256x4x64 : Shape := ⟨5, ![8, 64, 256, 4, 64]⟩
abbrev S8x64x4x256x128x4 : Shape := ⟨6, ![8, 64, 4, 256, 128, 4]⟩
abbrev S8x64x4x4x128x256 : Shape := ⟨6, ![8, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S64 : Shape := ⟨1, ![64]⟩
abbrev S64x1x1 : Shape := ⟨3, ![64, 1, 1]⟩
abbrev S128x256 : Shape := ⟨2, ![128, 256]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x4x4x1x1 : Shape := ⟨6, ![1, 1, 4, 4, 1, 1]⟩
abbrev S8x64x4x4x128 : Shape := ⟨5, ![8, 64, 4, 4, 128]⟩
abbrev S8x64x4x4x128x1 : Shape := ⟨6, ![8, 64, 4, 4, 128, 1]⟩
abbrev S8x64x4x64x4x128 : Shape := ⟨6, ![8, 64, 4, 64, 4, 128]⟩
abbrev S8x8192x1024 : Shape := ⟨3, ![8, 8192, 1024]⟩
abbrev S65536 : Shape := ⟨1, ![65536]⟩
abbrev S65536x1 : Shape := ⟨2, ![65536, 1]⟩

abbrev nBuf : Space → Nat
  | .hbm => 135
  | .vmem => 0
  | .smem => 0
  | _ => 0

abbrev hbmTy0_0 (i : Nat) : BufTy := match i % 128 with
  | 0 => ⟨S16, .f32⟩
  | 1 => ⟨S65536x1024, .f32⟩
  | 2 => ⟨S8x8192x16x64, .f32⟩
  | 3 => ⟨S8x8192x4x64, .f32⟩
  | 4 => ⟨S8x8192x4x64, .f32⟩
  | 5 => ⟨S65536x1024, .f32⟩
  | 6 => ⟨S65536x2048, .f32⟩
  | 7 => ⟨S1024x1024, .f32⟩
  | 8 => ⟨S1024x1024, .f32⟩
  | 9 => ⟨S1024x1024, .f32⟩
  | 10 => ⟨S1x1024, .f32⟩
  | 11 => ⟨S1x1024, .f32⟩
  | 12 => ⟨S8x64x128x4x4x64, .f32⟩
  | 13 => ⟨S_, .i32⟩
  | 14 => ⟨S_, .f32⟩
  | 15 => ⟨S8x8320x4x64, .f32⟩
  | 16 => ⟨S8x65x128x4x64, .f32⟩
  | 17 => ⟨S8x64x128x4x64, .f32⟩
  | 18 => ⟨S8x64x128x4x64, .f32⟩
  | 19 => ⟨S8x64x256x4x64, .f32⟩
  | 20 => ⟨S_, .i32⟩
  | 21 => ⟨S_, .f32⟩
  | 22 => ⟨S8x8320x4x64, .f32⟩
  | 23 => ⟨S8x65x128x4x64, .f32⟩
  | 24 => ⟨S8x64x128x4x64, .f32⟩
  | 25 => ⟨S8x64x128x4x64, .f32⟩
  | 26 => ⟨S8x64x256x4x64, .f32⟩
  | 27 => ⟨S8x64x4x256x128x4, .f32⟩
  | 28 => ⟨S8x64x4x4x128x256, .f32⟩
  | 29 => ⟨S_, .f32⟩
  | 30 => ⟨S8x64x4x4x128x256, .f32⟩
  | 31 => ⟨S8x64x4x4x128x256, .f32⟩
  | 32 => ⟨S128, .i32⟩
  | 33 => ⟨S128x1, .i32⟩
  | 34 => ⟨S256, .i32⟩
  | 35 => ⟨S1x256, .i32⟩
  | 36 => ⟨S64, .i32⟩
  | 37 => ⟨S64x1x1, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S_, .i32⟩
  | 45 => ⟨S128x256, .i32⟩
  | 46 => ⟨S128x256, .i1⟩
  | 47 => ⟨S_, .i32⟩
  | 48 => ⟨S128x256, .i32⟩
  | 49 => ⟨S128x256, .i1⟩
  | 50 => ⟨S128x256, .i1⟩
  | 51 => ⟨S_, .i32⟩
  | 52 => ⟨S64x1x1, .i32⟩
  | 53 => ⟨S64x1x1, .i32⟩
  | 54 => ⟨S1x1x256, .i32⟩
  | 55 => ⟨S64x1x256, .i32⟩
  | 56 => ⟨S64x1x256, .i32⟩
  | 57 => ⟨S64x1x256, .i32⟩
  | 58 => ⟨S_, .i32⟩
  | 59 => ⟨S64x1x256, .i32⟩
  | 60 => ⟨S64x1x256, .i32⟩
  | 61 => ⟨S_, .i32⟩
  | 62 => ⟨S64x1x256, .i32⟩
  | 63 => ⟨S64x1x256, .i1⟩
  | 64 => ⟨S1x128x256, .i1⟩
  | 65 => ⟨S64x128x256, .i1⟩
  | 66 => ⟨S64x128x256, .i1⟩
  | 67 => ⟨S64x128x256, .i1⟩
  | 68 => ⟨S1x64x1x1x128x256, .i1⟩
  | 69 => ⟨S_, .f32⟩
  | 70 => ⟨S_, .f32⟩
  | 71 => ⟨S8x64x4x4x128x256, .i1⟩
  | 72 => ⟨S8x64x4x4x128x256, .f32⟩
  | 73 => ⟨S8x64x4x4x128x256, .f32⟩
  | 74 => ⟨S1x1x4x4x1x1, .f32⟩
  | 75 => ⟨S_, .f32⟩
  | 76 => ⟨S8x64x4x4x128, .f32⟩
  | 77 => ⟨S8x64x4x4x128x1, .f32⟩
  | 78 => ⟨S8x64x4x4x128x1, .f32⟩
  | 79 => ⟨S8x64x4x4x128x1, .f32⟩
  | 80 => ⟨S8x64x4x4x128x256, .f32⟩
  | 81 => ⟨S8x64x4x4x128x256, .f32⟩
  | 82 => ⟨S8x64x4x4x128x256, .f32⟩
  | 83 => ⟨S_, .f32⟩
  | 84 => ⟨S8x64x4x4x128, .f32⟩
  | 85 => ⟨S8x64x4x4x128x1, .f32⟩
  | 86 => ⟨S8x64x4x4x128x1, .f32⟩
  | 87 => ⟨S8x64x4x4x128x1, .f32⟩
  | 88 => ⟨S8x64x4x4x128x1, .f32⟩
  | 89 => ⟨S8x64x4x4x128x1, .f32⟩
  | 90 => ⟨S8x64x4x4x128x256, .f32⟩
  | 91 => ⟨S8x64x4x4x128x256, .f32⟩
  | 92 => ⟨S8x64x4x64x4x128, .f32⟩
  | 93 => ⟨S8x64x128x4x4x64, .f32⟩
  | 94 => ⟨S8x8192x1024, .f32⟩
  | 95 => ⟨S65536x1024, .f32⟩
  | 96 => ⟨S65536x1024, .f32⟩
  | 97 => ⟨S65536x1024, .f32⟩
  | 98 => ⟨S65536x1024, .f32⟩
  | 99 => ⟨S65536x1024, .f32⟩
  | 100 => ⟨S65536x1024, .f32⟩
  | 101 => ⟨S65536x1024, .f32⟩
  | 102 => ⟨S65536x1024, .f32⟩
  | 103 => ⟨S_, .f32⟩
  | 104 => ⟨S65536x1024, .f32⟩
  | 105 => ⟨S65536x1024, .f32⟩
  | 106 => ⟨S65536x1024, .f32⟩
  | 107 => ⟨S65536x1024, .f32⟩
  | 108 => ⟨S_, .f32⟩
  | 109 => ⟨S65536, .f32⟩
  | 110 => ⟨S65536x1, .f32⟩
  | 111 => ⟨S_, .f32⟩
  | 112 => ⟨S65536x1, .f32⟩
  | 113 => ⟨S65536x1, .f32⟩
  | 114 => ⟨S65536x1024, .f32⟩
  | 115 => ⟨S65536x1024, .f32⟩
  | 116 => ⟨S65536x1024, .f32⟩
  | 117 => ⟨S_, .f32⟩
  | 118 => ⟨S65536, .f32⟩
  | 119 => ⟨S65536x1, .f32⟩
  | 120 => ⟨S_, .f32⟩
  | 121 => ⟨S65536x1, .f32⟩
  | 122 => ⟨S65536x1, .f32⟩
  | 123 => ⟨S65536x1024, .f32⟩
  | 124 => ⟨S65536x1024, .f32⟩
  | 125 => ⟨S_, .f32⟩
  | 126 => ⟨S65536x1, .f32⟩
  | 127 => ⟨S65536x1, .f32⟩
  | _ => ⟨S16, .f32⟩

abbrev hbmTy0_1 (i : Nat) : BufTy := match i % 128 with
  | 0 => ⟨S65536x1, .f32⟩
  | 1 => ⟨S65536x1024, .f32⟩
  | 2 => ⟨S65536x1024, .f32⟩
  | 3 => ⟨S65536x1024, .f32⟩
  | 4 => ⟨S65536x1024, .f32⟩
  | 5 => ⟨S65536x1024, .f32⟩
  | 6 => ⟨S65536x1024, .f32⟩
  | _ => ⟨S16, .f32⟩

abbrev hbmTy (i : Nat) : BufTy := match i / 128 with
  | 0 => hbmTy0_0 i
  | 1 => hbmTy0_1 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_11 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_13 : Ref sig .tc := ⟨.hbm, 117, rfl⟩
abbrev main_v85 : Ref sig .tc := ⟨.hbm, 118, rfl⟩
abbrev main_v86 : Ref sig .tc := ⟨.hbm, 119, rfl⟩
abbrev main_cst_14 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_15 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]
-- ==== Kernel2.lean ====
abbrev S65536x1024 : Shape := ⟨2, ![65536, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S64x1024 : Shape := ⟨2, ![64, 1024]⟩
abbrev S64 : Shape := ⟨1, ![64]⟩
abbrev S64x1 : Shape := ⟨2, ![64, 1]⟩
abbrev S8x128 : Shape := ⟨2, ![8, 128]⟩

abbrev nBuf : Space → Nat
  | .hbm => 16
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1024x2816, .f32⟩
  | .hbm, ⟨8, _⟩ => ⟨S1024x2816, .f32⟩
  | .hbm, ⟨9, _⟩ => ⟨S1024x2816, .bf16⟩
  | .hbm, ⟨10, _⟩ => ⟨S1024x2816, .bf16⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .bf16⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c128_i32 : BitVec 32 := 128#32
  let v3 : BitVec 1 := Scalar.cmpi .eq arg0 c128_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c128_i32_2 : BitVec 32 := 128#32
  let v6 : BitVec 1 := Scalar.cmpi .slt arg0 c128_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S65536x1024 : Shape := ⟨2, ![65536, 1024]⟩
abbrev S1024x2816 : Shape := ⟨2, ![1024, 2816]⟩
abbrev S2816x1024 : Shape := ⟨2, ![2816, 1024]⟩
abbrev S1x1024 : Shape := ⟨2, ![1, 1024]⟩
abbrev S65536x2816 : Shape := ⟨2, ![65536, 2816]⟩
abbrev S_ : Shape := ⟨0, ![]⟩
abbrev S65536 : Shape := ⟨1, ![65536]⟩
abbrev S65536x1 : Shape := ⟨2, ![65536, 1]⟩

abbrev nBuf : Space → Nat
  | .hbm => 53
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S65536x2816, .f32⟩
  | .hbm, ⟨7, _⟩ => ⟨S65536x2816, .f32⟩
  | .hbm, ⟨8, _⟩ => ⟨S65536x2816, .f32⟩
  | .hbm, ⟨9, _⟩ => ⟨S_, .f32⟩
  | .hbm, ⟨10, _⟩ => ⟨S65536x2816, .f32⟩
  | .hbm, ⟨11, _⟩ => ⟨S65536x2816, .f32⟩
  | .hbm, ⟨12, _⟩ => ⟨S_, .f32⟩
  | .hbm, ⟨13, _⟩ => ⟨S65536x2816, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S65536x2816, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Proof.Rows.lean ====
module
public import Idealize.ShloMosaic.Lib.Pointwise
public import Idealize.ShloMosaic.Lib.Pipeline.ValueKit
@[expose] public section
set_option maxRecDepth 16384
noncomputable section

/-! Facts that both calls use: the layer norm of one row, and what a buffer holds after a store that writes back what was
    there. -/

namespace Cert.Rows
open Idealize.ShloMosaic Idealize.SL.Sem

/-- The mean of a row of 1024 entries. -/
def mean (f : Fin 1024 → EReal) : EReal := Ideal.div (∑ k : Fin 1024, f k) (Ideal.ofBits .f32 0x44800000#32)

/-- The layer norm of one row `f` with gain `g` and bias `b`, at entry `d`. -/
def lnRow (f g b : Fin 1024 → EReal) (d : Fin 1024) : EReal :=
  (f d - mean f) * Ideal.rsqrt (Ideal.div (∑ k : Fin 1024, (f k - mean f) * (f k - mean f)) (Ideal.ofBits .f32 0x44800000#32)
    + Ideal.ofBits .f32 0x3727C5AC#32) * g d + b d

/-- A store of what the buffer already holds there leaves the buffer as it was. -/
theorem canon_same {Val : EltTy → Type} [∀ e, Nonempty (Val e)] {s : Shape} {e : EltTy} (P : s.Idx → Val e) (r : Rect s)
    (L : List (View.Piece Val s e)) (h : View.canon L = P) : View.canon (⟨r, View.ld P r⟩ :: L) = P := by
  funext y
  by_cases hy : y ∈ r.set
  · obtain ⟨x, rfl⟩ := r.exists_idx_of_mem hy
    rw [show r.idx x = r.emb x from rfl, View.canon_cons_emb]; rfl
  · rw [View.canon_cons_of_not_mem _ L hy, h]

end Cert.Rows

end
-- ==== Proof.FfnPay.lean ====
module
public import proofs.«01_k».proof.Proof.Gen.Kernel2Ideal.Value
public import proofs.«01_k».proof.Proof.Rows
@[expose] public section
set_option maxRecDepth 16384
noncomputable section

/-! The feed-forward call: the values its body computes, read at an index. -/

namespace Cert.Kernel2Ideal.Ffn
open Idealize.ShloMosaic Idealize.ShloMosaic.TcCoe Idealize.SL.Sem
open Cert.Kernel2Ideal Cert.Kernel2Ideal.Gen Cert.Rows

/-- The gate as the kernel computes it, of half the pre-activation. -/
def act (h : EReal) : EReal := h * Ideal.tanh h + h

/-- What one hidden unit contributes to one output entry. -/
def unit (x w1 w3 : Fin 1024 → EReal) (w2 : EReal) : EReal :=
  act (∑ i : Fin 1024, x i * w1 i) * (∑ i : Fin 1024, x i * w3 i) * w2

/-- One chunk of 256 hidden units of the sum, from the chunk's own weights. -/
def chunk (x : Vec Ideal S512x1024 .f32) (w1 w3 : Vec Ideal S1024x256 .bf16) (w2 : Vec Ideal S256x1024 .bf16) (r : Fin 512) (d : Fin 1024) : EReal :=
  ∑ k : Fin 256, unit (fun i => x (ix2 r i)) (fun i => w1 (ix2 i k)) (fun i => w3 (ix2 i k)) (w2 (ix2 k d))

section chunks
variable (x acc : Vec Ideal S512x1024 .f32) (w1 w3 : Vec Ideal S1024x256 .bf16) (w2 : Vec Ideal S256x1024 .bf16) (r : Fin 512) (d : Fin 1024)

theorem pay6_at : k0_pay6 (F := Ideal) x w1 w3 w2 (ix2 r d) = Ideal.ofBits .f32 0x3F9837F0#32 * x (ix2 r d) + chunk x w1 w3 w2 r d := by
  pointwise! [k0_pay6, k0_pay5, chunk, unit, act]
theorem pay12_at : k0_pay12 (F := Ideal) (k0_pay5 x) w1 w3 w2 acc (ix2 r d) = acc (ix2 r d) + chunk x w1 w3 w2 r d := by
  pointwise! [k0_pay12, k0_pay5, chunk, unit, act]
theorem pay17_at : k0_pay17 (F := Ideal) (k0_pay5 x) (k0_pay15 (k0_pay5 x) w1) (k0_pay16 w3) w2 acc (ix2 r d) = acc (ix2 r d) + chunk x w1 w3 w2 r d := by
  pointwise! [k0_pay17, k0_pay15, k0_pay16, k0_pay5, chunk, unit, act]
theorem pay20_at : k0_pay20 (F := Ideal) (k0_pay5 x) w1 w3 w2 acc (ix2 r d) = acc (ix2 r d) + chunk x w1 w3 w2 r d := by
  pointwise! [k0_pay20, k0_pay5, chunk, unit, act]
theorem pay26_at : k0_pay26 (F := Ideal) (k0_pay25 (k0_pay5 x) w1 w3 w2) acc (ix2 r d) = acc (ix2 r d) + chunk x w1 w3 w2 r d := by
  pointwise! [k0_pay26, k0_pay25, k0_pay5, chunk, unit, act]
theorem pay29_at : k0_pay29 (F := Ideal) (k0_pay5 x) w1 w3 w2 acc (ix2 r d) = acc (ix2 r d) + chunk x w1 w3 w2 r d := by
  pointwise! [k0_pay29, k0_pay5, chunk, unit, act]
theorem pay34_at : k0_pay34 (F := Ideal) (k0_pay5 x) w1 w3 w2 acc (ix2 r d) = acc (ix2 r d) + chunk x w1 w3 w2 r d := by
  pointwise! [k0_pay34, k0_pay5, chunk, unit, act]
theorem pay39_at : k0_pay39 (F := Ideal) (k0_pay37 (k0_pay5 x) w3) (k0_pay38 (k0_pay5 x) w1) w2 acc (ix2 r d) = acc (ix2 r d) + chunk x w1 w3 w2 r d := by
  pointwise! [k0_pay39, k0_pay38, k0_pay37, k0_pay5, chunk, unit, act]
theorem pay42_at : k0_pay42 (F := Ideal) (k0_pay5 x) w1 w3 w2 acc (ix2 r d) = acc (ix2 r d) + chunk x w1 w3 w2 r d := by
  pointwise! [k0_pay42, k0_pay5, chunk, unit, act]
theorem pay3_at : k0_pay3 (F := Ideal) (k0_pay43 (k0_pay5 x) w1 w3) w2 acc (ix2 r d) = acc (ix2 r d) + chunk x w1 w3 w2 r d := by
  pointwise! [k0_pay3, k0_pay43, k0_pay5, chunk, unit, act]
theorem pay4_at : k0_pay4 (F := Ideal) (k0_pay5 x) w1 w3 w2 acc (ix2 r d) = acc (ix2 r d) + chunk x w1 w3 w2 r d := by
  pointwise! [k0_pay4, k0_pay5, chunk, unit, act]
end chunks

/-! Adding the block of zeros changes nothing. -/
section zeros
variable (v : Vec Ideal S8x128 .f32)
theorem pay11_eq : k0_pay11 (F := Ideal) v = v := by funext j; pointwise [k0_pay11]
theorem pay14_eq : k0_pay14 (F := Ideal) v = v := by funext j; pointwise [k0_pay14]
theorem pay19_eq : k0_pay19 (F := Ideal) v = v := by funext j; pointwise [k0_pay19]
theorem pay24_eq : k0_pay24 (F := Ideal) v = v := by funext j; pointwise [k0_pay24]
theorem pay28_eq : k0_pay28 (F := Ideal) v = v := by funext j; pointwise [k0_pay28]
theorem pay33_eq : k0_pay33 (F := Ideal) v = v := by funext j; pointwise [k0_pay33]
theorem pay36_eq : k0_pay36 (F := Ideal) v = v := by funext j; pointwise [k0_pay36]
theorem pay41_eq : k0_pay41 (F := Ideal) v (Scalar.ofBits .f32 0x00000000#32) = v := by funext j; pointwise [k0_pay41]
end zeros

/-! The layer norm of a slab of rows. -/
section norms
variable (v : Vec Ideal S64x1024 .f32) (g b : Vec Ideal S1x1024 .f32) (r : Fin 64) (d : Fin 1024)

/-- Row `r` of a slab, normalised. -/
def slab (v : Vec Ideal S64x1024 .f32) (g b : Vec Ideal S1x1024 .f32) (r : Fin 64) (d : Fin 1024) : EReal :=
  lnRow (fun k => v (ix2 r k)) (fun k => g (ix2 0 k)) (fun k => b (ix2 0 k)) d

theorem pay10_at : k0_pay10 (F := Ideal) g b (k0_pay7 v) (k0_pay8 v) k0_pay9 (ix2 r d) = slab v g b r d := by
  pointwise! [k0_pay10, k0_pay7, k0_pay8, k0_pay9, slab, lnRow, mean]
theorem pay13_at : k0_pay13 (F := Ideal) v g b (ix2 r d) = slab v g b r d := by
  pointwise! [k0_pay13, slab, lnRow, mean]
theorem pay18_at : k0_pay18 (F := Ideal) v g b (ix2 r d) = slab v g b r d := by
  pointwise! [k0_pay18, slab, lnRow, mean]
theorem pay23_at : k0_pay23 (F := Ideal) v g b (k0_pay21 v) k0_pay22 (ix2 r d) = slab v g b r d := by
  pointwise! [k0_pay23, k0_pay21, k0_pay22, slab, lnRow, mean]
theorem pay27_at : k0_pay27 (F := Ideal) v g b (ix2 r d) = slab v g b r d := by
  pointwise! [k0_pay27, slab, lnRow, mean]
theorem pay32_at : k0_pay32 (F := Ideal) g b (k0_pay30 v) (k0_pay31 v) (ix2 r d) = slab v g b r d := by
  pointwise! [k0_pay32, k0_pay30, k0_pay31, slab, lnRow, mean]
theorem pay35_at : k0_pay35 (F := Ideal) v g b (ix2 r d) = slab v g b r d := by
  pointwise! [k0_pay35, slab, lnRow, mean]
theorem pay40_at : k0_pay40 (F := Ideal) v g b (ix2 r d) = slab v g b r d := by
  pointwise! [k0_pay40, slab, lnRow, mean]
theorem pay2_at (v : Vec Ideal S512x1024 .f32) (r : Fin 512) : k0_pay2 (F := Ideal) v g b (ix2 r d)
    = lnRow (fun k => v (ix2 r k)) (fun k => g (ix2 0 k)) (fun k => b (ix2 0 k)) d := by
  pointwise! [k0_pay2, lnRow, mean]

/-- A slab loaded from a tile at row `o`. -/
theorem slab_ld (X : Vec Ideal S512x1024 .f32) (o : ℕ) (i : ∀ a, (![o, 0] : Fin 2 → ℕ) a + (![64, 1024] : Fin 2 → ℕ) a ≤ S512x1024.size a)
    (R : Fin 512) (hR : R.val = o + r.val) : slab (View.ld X (Rect.unit (s := S512x1024) ![o, 0] ![64, 1024] i)) g b r d
    = lnRow (fun k => X (ix2 R k)) (fun k => g (ix2 0 k)) (fun k => b (ix2 0 k)) d := by
  unfold slab
  congr 1
  funext k
  pointwise
  exact congrArg X ((ix2_inj ..).2 ⟨Fin.ext hR.symm, rfl⟩)
end norms

end Cert.Kernel2Ideal.Ffn

end
-- ==== Proof.FfnBlock.lean ====
module
public import proofs.«01_k».proof.Proof.FfnPay
@[expose] public section
set_option maxRecDepth 16384
noncomputable section

/-! The feed-forward call: what one grid point leaves in its buffers. -/

namespace Cert.Kernel2Ideal.Ffn
open Idealize.ShloMosaic Idealize.ShloMosaic.TcCoe Idealize.SL.Sem
open Cert.Kernel2Ideal Cert.Kernel2Ideal.Gen Cert.Rows
variable (m : (ℓ : Loc nD τ sig) → Buf (Elt Ideal) ℓ)

/-- The residual sum of a tile of rows before its layer norm, from the tile's rows and the whole weights. -/
def resid (x : Vec Ideal S512x1024 .f32) (w1 w3 : Vec Ideal S1024x2816 .bf16) (w2 : Vec Ideal S2816x1024 .bf16) (r : Fin 512) (d : Fin 1024) : EReal :=
  Ideal.ofBits .f32 0x3F9837F0#32 * x (ix2 r d)
    + ∑ k : Fin 2816, unit (fun i => x (ix2 r i)) (fun i => w1 (ix2 i k)) (fun i => w3 (ix2 i k)) (w2 (ix2 k d))

/-- After the accumulator is stored whole and a corner of it is written back as it was, it reads as it was stored. -/
theorem readCov_corner {sig : RefSig} {κ : Kind} {sp : Space} (v : View sig κ sp S512x1024 .f32)
    (inb8 : ∀ a, (![0, 0] : Fin 2 → ℕ) a + (![8, 128] : Fin 2 → ℕ) a ≤ S512x1024.size a)
    (inb : ∀ a, (![0, 0] : Fin 2 → ℕ) a + (![512, 1024] : Fin 2 → ℕ) a ≤ S512x1024.size a)
    (P : Vec Ideal S512x1024 .f32) (L : List (View.Piece (Elt Ideal) S512x1024 .f32)) :
    v.readCov ((⟨Rect.unit (s := S512x1024) ![0, 0] ![8, 128] inb8,
        v.readCov ((⟨Rect.unit (s := S512x1024) ![0, 0] ![512, 1024] inb, P⟩ : View.Piece (Elt Ideal) S512x1024 .f32) :: L)
          (Rect.unit (s := S512x1024) ![0, 0] ![8, 128] inb8).toLoadRect⟩ : View.Piece (Elt Ideal) S512x1024 .f32)
      :: (⟨Rect.unit (s := S512x1024) ![0, 0] ![512, 1024] inb, P⟩ : View.Piece (Elt Ideal) S512x1024 .f32) :: L)
      (Rect.unit (s := S512x1024) ![0, 0] ![512, 1024] inb).toLoadRect = P := by
  have hz : (![0, 0] : Fin 2 → ℕ) = fun _ => 0 := by funext a; fin_cases a <;> rfl
  have hc : View.canon ((⟨Rect.unit (s := S512x1024) ![0, 0] ![512, 1024] inb, P⟩ : View.Piece (Elt Ideal) S512x1024 .f32) :: L) = P :=
    View.canon_cons_unit_zero hz inb P L
  rw [View.readCov_eq_canon', View.readCov_eq_canon', hc, canon_same P _ _ hc]
  exact View.ld_unit_zero hz inb P

/-- What hidden unit `k` contributes, from the whole weights. -/
def hid (x : Vec Ideal S512x1024 .f32) (w1 w3 : Vec Ideal S1024x2816 .bf16) (w2 : Vec Ideal S2816x1024 .bf16) (r : Fin 512) (d : Fin 1024) (k : Fin 2816) : EReal :=
  unit (fun i => x (ix2 r i)) (fun i => w1 (ix2 i k)) (fun i => w3 (ix2 i k)) (w2 (ix2 k d))

/-- A chunk loaded from the whole weights at offset `256 * j`. -/
theorem chunk_ld (x : Vec Ideal S512x1024 .f32) (w1 w3 : Vec Ideal S1024x2816 .bf16) (w2 : Vec Ideal S2816x1024 .bf16) (r : Fin 512) (d : Fin 1024)
    (j : Fin 11) (o : ℕ) (ho : o = j.val * 256)
    (i1 : ∀ a, (![0, o] : Fin 2 → ℕ) a + (![1024, 256] : Fin 2 → ℕ) a ≤ S1024x2816.size a)
    (i2 : ∀ a, (![o, 0] : Fin 2 → ℕ) a + (![256, 1024] : Fin 2 → ℕ) a ≤ S2816x1024.size a) :
    chunk x (View.ld w1 (Rect.unit (s := S1024x2816) ![0, o] ![1024, 256] i1)) (View.ld w3 (Rect.unit (s := S1024x2816) ![0, o] ![1024, 256] i1))
      (View.ld w2 (Rect.unit (s := S2816x1024) ![o, 0] ![256, 1024] i2)) r d
    = ∑ k : Fin 256, hid x w1 w3 w2 r d ⟨j.val * 256 + k.val, by omega⟩ := by
  subst ho
  unfold chunk hid
  refine Finset.sum_congr rfl fun k _ => ?_
  pointwise

/-- The eleven chunks are the whole sum. -/
theorem resid_chunks (x : Vec Ideal S512x1024 .f32) (w1 w3 : Vec Ideal S1024x2816 .bf16) (w2 : Vec Ideal S2816x1024 .bf16) (r : Fin 512) (d : Fin 1024) :
    resid x w1 w3 w2 r d = Ideal.ofBits .f32 0x3F9837F0#32 * x (ix2 r d)
      + ∑ j : Fin 11, ∑ k : Fin 256, hid x w1 w3 w2 r d ⟨j.val * 256 + k.val, by omega⟩ := by
  unfold resid
  rw [show (∑ k : Fin 2816, unit (fun i => x (ix2 r i)) (fun i => w1 (ix2 i k)) (fun i => w3 (ix2 i k)) (w2 (ix2 k d)))
    = ∑ k : Fin (11 * 256), hid x w1 w3 w2 r d k from rfl, Fin.sum_univ_tiles 11 256 rfl]

/-- The chain of the body's eleven stores into the accumulator and the last store's value. -/
theorem chain (x : Vec Ideal S512x1024 .f32) (w1 w3 : Vec Ideal S1024x2816 .bf16) (w2 : Vec Ideal S2816x1024 .bf16) (r : Fin 512) (d : Fin 1024)
    (c : Fin 11 → EReal) (h : ∀ j : Fin 11, c j = ∑ k : Fin 256, hid x w1 w3 w2 r d ⟨j.val * 256 + k.val, by omega⟩) :
    Ideal.ofBits .f32 0x3F9837F0#32 * x (ix2 r d) + c 0 + c 1 + c 2 + c 3 + c 4 + c 5 + c 6 + c 7 + c 8 + c 9 + c 10
      = resid x w1 w3 w2 r d := by
  rw [resid_chunks, ← Finset.sum_congr rfl fun j _ => h j]
  simp only [Fin.sum_univ_succ, Fin.sum_univ_zero, add_zero]
  simp only [add_assoc]
  rfl

section
variable (x : Vec Ideal S512x1024 .f32) (w1 w3 : Vec Ideal S1024x2816 .bf16) (w2 : Vec Ideal S2816x1024 .bf16) (r : Fin 512) (d : Fin 1024)

/-- The last of the accumulating stores' values: the residual sum. -/
theorem last_at : k0_pay4 (F := Ideal) (k0_pay5 x)
    (View.ld w1 (Rect.unit (s := S1024x2816) ![0, 2560] ![1024, 256] inb_S1024x2816_S1024x256_0_2560))
    (View.ld w3 (Rect.unit (s := S1024x2816) ![0, 2560] ![1024, 256] inb_S1024x2816_S1024x256_0_2560))
    (View.ld w2 (Rect.unit (s := S2816x1024) ![2560, 0] ![256, 1024] inb_S2816x1024_S256x1024_2560_0))
    (k0_pay3 (k0_pay43 (k0_pay5 x)
        (View.ld w1 (Rect.unit (s := S1024x2816) ![0, 2304] ![1024, 256] inb_S1024x2816_S1024x256_0_2304))
        (View.ld w3 (Rect.unit (s := S1024x2816) ![0, 2304] ![1024, 256] inb_S1024x2816_S1024x256_0_2304)))
      (View.ld w2 (Rect.unit (s := S2816x1024) ![2304, 0] ![256, 1024] inb_S2816x1024_S256x1024_2304_0))
      (k0_pay42 (k0_pay5 x)
        (View.ld w1 (Rect.unit (s := S1024x2816) ![0, 2048] ![1024, 256] inb_S1024x2816_S1024x256_0_2048))
        (View.ld w3 (Rect.unit (s := S1024x2816) ![0, 2048] ![1024, 256] inb_S1024x2816_S1024x256_0_2048))
        (View.ld w2 (Rect.unit (s := S2816x1024) ![2048, 0] ![256, 1024] inb_S2816x1024_S256x1024_2048_0))
        (k0_pay39 (k0_pay37 (k0_pay5 x)
            (View.ld w3 (Rect.unit (s := S1024x2816) ![0, 1792] ![1024, 256] inb_S1024x2816_S1024x256_0_1792)))
          (k0_pay38 (k0_pay5 x)
            (View.ld w1 (Rect.unit (s := S1024x2816) ![0, 1792] ![1024, 256] inb_S1024x2816_S1024x256_0_1792)))
          (View.ld w2 (Rect.unit (s := S2816x1024) ![1792, 0] ![256, 1024] inb_S2816x1024_S256x1024_1792_0))
          (k0_pay34 (k0_pay5 x)
            (View.ld w1 (Rect.unit (s := S1024x2816) ![0, 1536] ![1024, 256] inb_S1024x2816_S1024x256_0_1536))
            (View.ld w3 (Rect.unit (s := S1024x2816) ![0, 1536] ![1024, 256] inb_S1024x2816_S1024x256_0_1536))
            (View.ld w2 (Rect.unit (s := S2816x1024) ![1536, 0] ![256, 1024] inb_S2816x1024_S256x1024_1536_0))
            (k0_pay29 (k0_pay5 x)
              (View.ld w1 (Rect.unit (s := S1024x2816) ![0, 1280] ![1024, 256] inb_S1024x2816_S1024x256_0_1280))
              (View.ld w3 (Rect.unit (s := S1024x2816) ![0, 1280] ![1024, 256] inb_S1024x2816_S1024x256_0_1280))
              (View.ld w2 (Rect.unit (s := S2816x1024) ![1280, 0] ![256, 1024] inb_S2816x1024_S256x1024_1280_0))
              (k0_pay26 (k0_pay25 (k0_pay5 x)
                  (View.ld w1 (Rect.unit (s := S1024x2816) ![0, 1024] ![1024, 256] inb_S1024x2816_S1024x256_0_1024))
                  (View.ld w3 (Rect.unit (s := S1024x2816) ![0, 1024] ![1024, 256] inb_S1024x2816_S1024x256_0_1024))
                  (View.ld w2 (Rect.unit (s := S2816x1024) ![1024, 0] ![256, 1024] inb_S2816x1024_S256x1024_1024_0)))
                (k0_pay20 (k0_pay5 x)
                  (View.ld w1 (Rect.unit (s := S1024x2816) ![0, 768] ![1024, 256] inb_S1024x2816_S1024x256_0_768))
                  (View.ld w3 (Rect.unit (s := S1024x2816) ![0, 768] ![1024, 256] inb_S1024x2816_S1024x256_0_768))
                  (View.ld w2 (Rect.unit (s := S2816x1024) ![768, 0] ![256, 1024] inb_S2816x1024_S256x1024_768_0))
                  (k0_pay17 (k0_pay5 x) (k0_pay15 (k0_pay5 x)
                      (View.ld w1 (Rect.unit (s := S1024x2816) ![0, 512] ![1024, 256] inb_S1024x2816_S1024x256_0_512)))
                    (k0_pay16 (View.ld w3 (Rect.unit (s := S1024x2816) ![0, 512] ![1024, 256] inb_S1024x2816_S1024x256_0_512)))
                    (View.ld w2 (Rect.unit (s := S2816x1024) ![512, 0] ![256, 1024] inb_S2816x1024_S256x1024_512_0))
                    (k0_pay12 (k0_pay5 x)
                      (View.ld w1 (Rect.unit (s := S1024x2816) ![0, 256] ![1024, 256] inb_S1024x2816_S1024x256_0_256))
                      (View.ld w3 (Rect.unit (s := S1024x2816) ![0, 256] ![1024, 256] inb_S1024x2816_S1024x256_0_256))
                      (View.ld w2 (Rect.unit (s := S2816x1024) ![256, 0] ![256, 1024] inb_S2816x1024_S256x1024_256_0))
                      (k0_pay6 x
                        (View.ld w1 (Rect.unit (s := S1024x2816) ![0, 0] ![1024, 256] inb_S1024x2816_S1024x256_0_0))
                        (View.ld w3 (Rect.unit (s := S1024x2816) ![0, 0] ![1024, 256] inb_S1024x2816_S1024x256_0_0))
                        (View.ld w2 (Rect.unit (s := S2816x1024) ![0, 0] ![256, 1024] inb_S2816x1024_S256x1024_0_0)))))))))))) (ix2 r d)
    = resid x w1 w3 w2 r d := by
  rw [pay4_at, pay3_at, pay42_at, pay39_at, pay34_at, pay29_at, pay26_at, pay20_at, pay17_at, pay12_at, pay6_at]
  rw [chunk_ld x w1 w3 w2 r d 0 0 rfl, chunk_ld x w1 w3 w2 r d 1 256 rfl, chunk_ld x w1 w3 w2 r d 2 512 rfl, chunk_ld x w1 w3 w2 r d 3 768 rfl,
    chunk_ld x w1 w3 w2 r d 4 1024 rfl, chunk_ld x w1 w3 w2 r d 5 1280 rfl, chunk_ld x w1 w3 w2 r d 6 1536 rfl, chunk_ld x w1 w3 w2 r d 7 1792 rfl,
    chunk_ld x w1 w3 w2 r d 8 2048 rfl, chunk_ld x w1 w3 w2 r d 9 2304 rfl, chunk_ld x w1 w3 w2 r d 10 2560 rfl]
  exact chain x w1 w3 w2 r d (fun j => ∑ k : Fin 256, hid x w1 w3 w2 r d ⟨j.val * 256 + k.val, by omega⟩) fun _ => rfl
end

theorem sout_A (c : Dev nD) (t : Fin cfg0.N) (h0 : t.val % 129 = 0) (h1 : ¬t.val % 129 = 128) (h2 : t.val < 128) (r : Fin 512) (d : Fin 1024) :
    (outsAt0 m c t.val t.isLt).2 (ix2 r d) = resid (iblk m c 0 t) (iblk m c 1 t) (iblk m c 2 t) (iblk m c 3 t) r d := by
  rw [outsAt0_A m c t h0 h1 h2]
  frame_out
  simp only [pay11_eq, pay14_eq, pay19_eq, pay24_eq, pay28_eq, pay33_eq, pay36_eq, pay41_eq, readCov_corner]
  exact last_at _ _ _ _ r d

theorem sout_B (c : Dev nD) (t : Fin cfg0.N) (h0 : ¬t.val % 129 = 0) (h1 : ¬t.val % 129 = 128) (h2 : t.val < 128) (r : Fin 512) (d : Fin 1024) :
    (outsAt0 m c t.val t.isLt).2 (ix2 r d) = resid (iblk m c 0 t) (iblk m c 1 t) (iblk m c 2 t) (iblk m c 3 t) r d := by
  rw [outsAt0_B m c t h0 h1 h2]
  frame_out
  simp only [pay11_eq, pay14_eq, pay19_eq, pay24_eq, pay28_eq, pay33_eq, pay36_eq, pay41_eq, readCov_corner]
  exact last_at _ _ _ _ r d

/-- The carried tile reads as the point before left it. -/
theorem read_carried (X : Vec Ideal S512x1024 .f32) (h : scM0_1.IsWhole) :
    View.read (Elt Ideal) (View.whole cc0_scratch1) (h.unread X) = X := h.read_unread X

/-- Row `r` of the tile the point before left, normalised with the block's gain and bias. -/
def norm (c : Dev nD) (t : Fin cfg0.N) (r : Fin 512) (d : Fin 1024) : EReal :=
  lnRow (fun k => (outsAt0 m c (t.val - 1) (Nat.lt_of_le_of_lt (Nat.sub_le _ _) t.isLt)).2 (ix2 r k))
    (fun k => (iblk m c 4 t : Vec Ideal S1x1024 .f32) (ix2 0 k)) (fun k => (iblk m c 5 t : Vec Ideal S1x1024 .f32) (ix2 0 k)) d

theorem out_C (c : Dev nD) (t : Fin cfg0.N) (h0 : ¬t.val % 129 = 0) (h1 : t.val % 129 = 128) (h2 : ¬t.val < 128) (r : Fin 512) (d : Fin 1024) :
    (outsAt0 m c t.val t.isLt).1 (ix2 r d) = norm m c t r d := by
  rw [outsAt0_C m c t h0 h1 h2]
  frame_out
  rw [read_carried]
  exact pay2_at _ _ _ _ _

theorem out_B (c : Dev nD) (t : Fin cfg0.N) (h0 : ¬t.val % 129 = 0) (h1 : ¬t.val % 129 = 128) (h2 : t.val < 128) (y : S512x1024.Idx) :
    (outsAt0 m c t.val t.isLt).1 y = norm m c t (y 0) (y 1) := by
  rw [outsAt0_B m c t h0 h1 h2]
  frame_out
  rw [read_carried]
  canon_tiles x h
  all_goals
    obtain ⟨a, b, rfl⟩ : ∃ (a : Fin 64) (b : Fin 1024), x = ix2 a b := ⟨_, _, eq_ix2 x⟩
    refine Eq.trans ?_ (congrArg (norm m c t (y 0)) (Fin.ext h1 : y 1 = b).symm)
    simp only [pay10_at, pay13_at, pay18_at, pay23_at, pay27_at, pay32_at, pay35_at, pay40_at]
    first
      | exact slab_ld _ _ _ _ _ _ _ (y 0) h0
      | exact slab_ld _ _ _ _ _ _ _ (y 0) (h0.trans (Nat.zero_add _).symm)

/-- What a point before the last leaves in the carried tile. -/
theorem sout (c : Dev nD) (t : Fin cfg0.N) (h2 : t.val < 128) (r : Fin 512) (d : Fin 1024) :
    (outsAt0 m c t.val t.isLt).2 (ix2 r d) = resid (iblk m c 0 t) (iblk m c 1 t) (iblk m c 2 t) (iblk m c 3 t) r d := by
  by_cases h0 : t.val % 129 = 0
  · exact sout_A m c t h0 (by omega) h2 r d
  · exact sout_B m c t h0 (by omega) h2 r d

/-- What a point after the first leaves in the result's buffer. -/
theorem out (c : Dev nD) (t : Fin cfg0.N) (h : 0 < t.val) (y : S512x1024.Idx) :
    (outsAt0 m c t.val t.isLt).1 y = norm m c t (y 0) (y 1) := by
  have ht : t.val < 129 := lt_of_lt_of_eq t.isLt Gen.N_0
  by_cases h2 : t.val < 128
  · exact out_B m c t (by omega) (by omega) h2 y
  · exact (congrArg _ (eq_ix2 y)).trans (out_C m c t (by omega) (by omega) h2 (y 0) (y 1))

end Cert.Kernel2Ideal.Ffn

end
-- ==== Proof.FfnArray.lean ====
module
public import proofs.«01_k».proof.Proof.FfnBlock
public import proofs.«01_k».proof.Proof.Gen.Kernel2Ideal.Value
@[expose] public section
set_option maxRecDepth 16384
noncomputable section

/-! The feed-forward call: the array it leaves, at an index. -/

namespace Cert.Kernel2Ideal.Ffn
open Idealize.ShloMosaic Idealize.ShloMosaic.TcCoe Idealize.SL.Sem
open Cert.Kernel2Ideal Cert.Kernel2Ideal.Gen Cert.Rows
variable (m : (ℓ : Loc nD τ sig) → Buf (Elt Ideal) ℓ)

/-- One half. -/
def half : EReal := Ideal.ofBits .f32 0x3F000000#32

/-- The residual sum of one token at one feature, from the call's own arguments. -/
def sum (x : Vec Ideal S65536x1024 .f32) (w1 w3 : Vec Ideal S1024x2816 .f32) (w2 : Vec Ideal S2816x1024 .f32) (R : Fin 65536) (d : Fin 1024) : EReal :=
  Ideal.ofBits .f32 0x3F9837F0#32 * x (ix2 R d)
    + ∑ k : Fin 2816, unit (fun i => x (ix2 R i)) (fun i => half * w1 (ix2 i k)) (fun i => w3 (ix2 i k)) (half * w2 (ix2 k d))

/-- The block of tokens a point reads. -/
theorem idx0 : ∀ t : Fin cfg0.N, win0_0.index t = ![min t.val 127, 0] := (by decide +kernel : ∀ t : Fin grid0.N, _)
/-- The block of tokens a point writes. -/
theorem idx6 : ∀ t : Fin cfg0.N, win0_6.index t = ![t.val - 1, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
/-- No write-back happens at the first point. -/
theorem flush_pos : ∀ t : Fin cfg0.N, (cfg0.win 6).flush t = true → 0 < t.val := (by decide +kernel : ∀ t : Fin grid0.N, _)

theorem x_at (c : Dev nD) (t : Fin cfg0.N) (h2 : t.val < 128) (r : Fin 512) (k : Fin 1024) (R : Fin 65536) (hR : R.val = 512 * t.val + r.val) :
    (iblk m c 0 t : Vec Ideal S512x1024 .f32) (ix2 r k) = (m ((c.tc : Thread nD τ).loc main_arg0) : Vec Ideal S65536x1024 .f32) (ix2 R k) := by
  blk_simp [iblk, V_main_arg0]
  refine congrArg _ ?_
  blk_ext [idx0 t]

theorem w1_at (c : Dev nD) (t : Fin cfg0.N) (i : Fin 1024) (k : Fin 2816) :
    (iblk m c 1 t : Vec Ideal S1024x2816 .bf16) (ix2 i k) = half * (m ((c.tc : Thread nD τ).loc main_arg1) : Vec Ideal S1024x2816 .f32) (ix2 i k) := by
  blk_simp [iblk]
  entry_read
  rw [show (win0_1.blk t).view.emb (ix2 i k) = ix2 i k by blk_ext [idx1 t]]
  pointwise [half]

theorem w3_at (c : Dev nD) (t : Fin cfg0.N) (i : Fin 1024) (k : Fin 2816) :
    (iblk m c 2 t : Vec Ideal S1024x2816 .bf16) (ix2 i k) = (m ((c.tc : Thread nD τ).loc main_arg2) : Vec Ideal S1024x2816 .f32) (ix2 i k) := by
  blk_simp [iblk]
  entry_read
  rw [show (win0_2.blk t).view.emb (ix2 i k) = ix2 i k by blk_ext [idx2 t]]
  pointwise

theorem w2_at (c : Dev nD) (t : Fin cfg0.N) (k : Fin 2816) (d : Fin 1024) :
    (iblk m c 3 t : Vec Ideal S2816x1024 .bf16) (ix2 k d) = half * (m ((c.tc : Thread nD τ).loc main_arg3) : Vec Ideal S2816x1024 .f32) (ix2 k d) := by
  blk_simp [iblk]
  entry_read
  rw [show (win0_3.blk t).view.emb (ix2 k d) = ix2 k d by blk_ext [idx3 t]]
  pointwise [half]

theorem g_at (c : Dev nD) (t : Fin cfg0.N) (d : Fin 1024) :
    (iblk m c 4 t : Vec Ideal S1x1024 .f32) (ix2 0 d) = (m ((c.tc : Thread nD τ).loc main_arg4) : Vec Ideal S1x1024 .f32) (ix2 0 d) := by
  blk_simp [iblk]
  rw [show (win0_4.blk t).view.emb (ix2 0 d) = ix2 0 d by blk_ext [idx4 t]]
  exact congrFun (V_main_arg4 m c) _

theorem b_at (c : Dev nD) (t : Fin cfg0.N) (d : Fin 1024) :
    (iblk m c 5 t : Vec Ideal S1x1024 .f32) (ix2 0 d) = (m ((c.tc : Thread nD τ).loc main_arg5) : Vec Ideal S1x1024 .f32) (ix2 0 d) := by
  blk_simp [iblk]
  rw [show (win0_5.blk t).view.emb (ix2 0 d) = ix2 0 d by blk_ext [idx5 t]]
  exact congrFun (V_main_arg5 m c) _

/-- What one tile's residual sum is in terms of the call's arguments. -/
theorem resid_at (c : Dev nD) (t : Fin cfg0.N) (h2 : t.val < 128) (r : Fin 512) (d : Fin 1024) (R : Fin 65536) (hR : R.val = 512 * t.val + r.val) :
    resid (iblk m c 0 t) (iblk m c 1 t) (iblk m c 2 t) (iblk m c 3 t) r d
      = sum (m ((c.tc : Thread nD τ).loc main_arg0)) (m ((c.tc : Thread nD τ).loc main_arg1)) (m ((c.tc : Thread nD τ).loc main_arg2)) (m ((c.tc : Thread nD τ).loc main_arg3)) R d := by
  unfold resid sum
  rw [x_at m c t h2 r d R hR]
  refine congrArg _ (Finset.sum_congr rfl fun k _ => ?_)
  rw [w2_at m c t k d, show (fun i => (iblk m c 0 t : Vec Ideal S512x1024 .f32) (ix2 r i)) = _ from funext fun i => x_at m c t h2 r i R hR,
    show (fun i => (iblk m c 1 t : Vec Ideal S1024x2816 .bf16) (ix2 i k)) = _ from funext fun i => w1_at m c t i k,
    show (fun i => (iblk m c 2 t : Vec Ideal S1024x2816 .bf16) (ix2 i k)) = _ from funext fun i => w3_at m c t i k]

/-- What the call computes, from its own arguments. -/
def result (x : Vec Ideal S65536x1024 .f32) (w1 w3 : Vec Ideal S1024x2816 .f32) (w2 : Vec Ideal S2816x1024 .f32) (g b : Vec Ideal S1x1024 .f32) : Vec Ideal S65536x1024 .f32 :=
  fun j => lnRow (sum x w1 w3 w2 (j 0)) (fun d => g (ix2 0 d)) (fun d => b (ix2 0 d)) (j 1)

/-- The array the call leaves. -/
theorem array (c : Dev nD) : (dats m 0 c).arrAt 6 cfg0.N
    = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) := by
  refine (dats m 0 c).arrAt_eq_of_covers 6 _ (by decide +kernel) fun t hf y => ?_
  have h := flush_pos t hf
  have ht : t.val < 129 := lt_of_lt_of_eq t.isLt Gen.N_0
  blk_simp
  rw [after0_6]
  have hb : t.val - 1 < cfg0.N := lt_of_le_of_lt (Nat.sub_le _ _) t.isLt
  have h2 : t.val - 1 < 128 := by omega
  refine (out m c t h y).trans ?_
  have e0 : (((win0_6.blk t).view.emb y) 0 : ℕ) = 512 * (t.val - 1) + (y 0 : ℕ) := by blk_simp [idx6 t]; simp; omega
  have e1 : ((win0_6.blk t).view.emb y) 1 = y 1 := Fin.ext (by blk_simp [idx6 t])
  unfold norm result
  rw [e1]
  simp only [g_at, b_at]
  rw [show (fun k => (outsAt0 m c (t.val - 1) (Nat.lt_of_le_of_lt (Nat.sub_le _ _) t.isLt)).2 (ix2 (y 0) k)) = _ from
    funext fun k => (sout m c ⟨t.val - 1, hb⟩ h2 (y 0) k).trans (resid_at m c ⟨t.val - 1, hb⟩ h2 (y 0) k _ e0)]

end Cert.Kernel2Ideal.Ffn

end
-- ==== Proof.FfnRef.lean ====
module
public import proofs.«01_k».proof.Proof.FfnArray
public import proofs.«01_k».proof.Proof.Gen.Reference2Ideal.Read
public import proofs.«01_k».proof.Pre_finite_inputs
@[expose] public section
set_option maxRecDepth 16384
noncomputable section

/-! The feed-forward call: what the reference computes, at an index, and the equation of the two. -/

namespace Cert.Kernel2Ideal.Ffn
open Idealize.ShloMosaic Idealize.ShloMosaic.TcCoe Idealize.SL.Sem
open Cert.Rows
open Cert.Reference2Ideal.Read
variable (x : Vec Ideal S65536x1024 .f32) (w1 w3 : Vec Ideal S1024x2816 .f32) (w2 : Vec Ideal S2816x1024 .f32) (g b : Vec Ideal S1x1024 .f32)

/-- The gate's argument of one token at one hidden unit. -/
def gate (R : Fin 65536) (k : Fin 2816) : EReal := ∑ i : Fin 1024, x (ix2 R i) * w1 (ix2 i k)

/-- The reference's residual sum of one token at one feature. -/
def rsum (R : Fin 65536) (d : Fin 1024) : EReal :=
  Ideal.ofBits .f32 0x3F9837F0#32 * x (ix2 R d)
    + half * ∑ k : Fin 2816, gate x w1 R k * Ideal.logistic (gate x w1 R k) * gate x w3 R k * w2 (ix2 k d)

theorem v0_at (R : Fin 65536) (k : Fin 2816) : val_main_v0 (F := Ideal) x w1 (ix2 R k) = gate x w1 R k := by
  pointwise! [val_main_v0, gate]

theorem v2_at (R : Fin 65536) (k : Fin 2816) : val_main_v2 (F := Ideal) x w3 (ix2 R k) = gate x w3 R k := by
  pointwise! [val_main_v2, gate]

theorem v3_at (R : Fin 65536) (k : Fin 2816) :
    val_main_v3 (F := Ideal) x w1 w3 (ix2 R k) = gate x w1 R k * Ideal.logistic (gate x w1 R k) * gate x w3 R k := by
  rw [← v0_at, ← v2_at]
  simp only [val_main_v3, val_main_v1, val_main_call0_v5, val_main_call0_v3, val_main_call0_v1, val_main_call0_v0]
  generalize val_main_v0 (F := Ideal) x w1 = X
  generalize val_main_v2 (F := Ideal) x w3 = Y
  pointwise! [val_main_call0_v4, val_main_call0_v2, val_main_call0_cst, val_main_call0_cst_0, Ideal.logistic]

theorem v9_at (R : Fin 65536) (d : Fin 1024) : val_main_v9 (F := Ideal) x w1 w3 w2 (ix2 R d) = rsum x w1 w3 w2 R d := by
  unfold rsum
  simp only [← v3_at]
  simp only [val_main_v9, val_main_v8, val_main_v4]
  generalize val_main_v3 (F := Ideal) x w1 w3 = X
  pointwise! [val_main_v6, val_main_v5, val_main_v7, val_main_cst, val_main_cst_0, half]

theorem v31_at (R : Fin 65536) (d : Fin 1024) : val_main_v31 (F := Ideal) x w1 w3 w2 g b (ix2 R d)
    = lnRow (rsum x w1 w3 w2 R) (fun d => g (ix2 0 d)) (fun d => b (ix2 0 d)) d := by
  rw [show rsum x w1 w3 w2 R = fun d => val_main_v9 (F := Ideal) x w1 w3 w2 (ix2 R d) from funext fun d => (v9_at x w1 w3 w2 R d).symm]
  simp only [val_main_v31, val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11, val_main_v10]
  generalize val_main_v9 (F := Ideal) x w1 w3 w2 = X
  pointwise! [lnRow, mean, val_main_cst_1, val_main_cst_2, val_main_cst_3, val_main_cst_4, val_main_cst_5]

theorem half_eq : half = ((1 / 2 : ℝ) : EReal) := by
  unfold half
  simp [Ideal.ofBits, Ideal.ieee]
  have e : (8388608 : ℝ) * (2 ^ 24 : ℝ)⁻¹ = 2⁻¹ := by norm_num
  rw [← e, EReal.coe_mul]

/-- Half of a sum is the sum of the halves, infinite entries included. -/
theorem half_sum {n : ℕ} (f : Fin n → EReal) : half * ∑ k, f k = ∑ k, half * f k := by
  have h0 : (0 : EReal) ≤ half := by rw [half_eq]; exact_mod_cast (by norm_num : (0 : ℝ) ≤ 1 / 2)
  have h1 : half ≠ ⊤ := by rw [half_eq]; exact EReal.coe_ne_top _
  induction n with
  | zero => simp
  | succ n ih => rw [Fin.sum_univ_succ, Fin.sum_univ_succ, EReal.left_distrib_of_nonneg_of_ne_top h0 h1, ih]

/-- At a real number the kernel's gate of half the argument is the reference's gate of the argument. -/
theorem act_half (s : ℝ) : act (half * (s : EReal)) = (s : EReal) * Ideal.logistic (s : EReal) := by
  rw [half_eq]
  unfold act
  rw [← EReal.coe_mul, Ideal.tanh_coe, Ideal.logistic_coe, ← EReal.coe_mul, ← EReal.coe_add, ← EReal.coe_mul, EReal.coe_eq_coe_iff]
  rw [Real.tanh_eq_sinh_div_cosh, Real.sinh_eq, Real.cosh_eq]
  have e : Real.exp (-s) = Real.exp (-(1 / 2 * s)) * Real.exp (-(1 / 2 * s)) := by rw [← Real.exp_add]; congr 1; ring
  have e2 : Real.exp (1 / 2 * s) * Real.exp (-(1 / 2 * s)) = 1 := by rw [← Real.exp_add]; simp
  rw [e]
  have p := Real.exp_pos (1 / 2 * s)
  have q := Real.exp_pos (-(1 / 2 * s))
  generalize Real.exp (1 / 2 * s) = a at *
  generalize Real.exp (-(1 / 2 * s)) = c at *
  field_simp
  linear_combination (2 * s * c) * e2

/-- A sum of products of real numbers is a real number. -/
theorem gate_real (R : Fin 65536) (k : Fin 2816) (hx : ∀ i, ∃ r : ℝ, x (ix2 R i) = (r : EReal)) (hw : ∀ i, ∃ r : ℝ, w1 (ix2 i k) = (r : EReal)) :
    ∃ s : ℝ, gate x w1 R k = (s : EReal) := by
  choose a ha using hx
  choose c hc using hw
  refine ⟨∑ i, a i * c i, ?_⟩
  unfold gate
  simp only [ha, hc, ← EReal.coe_mul]
  exact (map_sum (⟨⟨Real.toEReal, rfl⟩, EReal.coe_add⟩ : ℝ →+ EReal) _ _).symm

/-- The two residual sums agree where the activations and the gate's weights are real numbers. -/
theorem sum_eq (hx : ∀ R i, ∃ r : ℝ, x (ix2 R i) = (r : EReal)) (hw : ∀ i k, ∃ r : ℝ, w1 (ix2 i k) = (r : EReal)) (R : Fin 65536) (d : Fin 1024) :
    rsum x w1 w3 w2 R d = sum x w1 w3 w2 R d := by
  unfold rsum sum
  rw [half_sum]
  refine congrArg _ (Finset.sum_congr rfl fun k _ => ?_)
  obtain ⟨s, hs⟩ := gate_real x w1 R k (hx R) (fun i => hw i k)
  have e : ∑ i : Fin 1024, x (ix2 R i) * (half * w1 (ix2 i k)) = half * gate x w1 R k := by
    unfold gate
    rw [half_sum]
    exact Finset.sum_congr rfl fun i _ => by ac_rfl
  unfold unit
  rw [e, hs, act_half]
  unfold gate
  ac_rfl

/-- The precondition, at one entry. -/
theorem real_of_lt (v : EReal) (h : FloatOps.cmpf (F := Ideal) (φ := .f32) .olt (FloatOps.hostAbsf v) (FloatOps.ofBits .f32 0x7F800000#32) = 1#1) : ∃ r : ℝ, v = (r : EReal) := by
  have htop : Ideal.ofBits .f32 0x7F800000#32 = ⊤ := by simp [Ideal.ofBits, Ideal.ieee]
  have h : Ideal.cmp .olt (max v (-v)) (Ideal.ofBits .f32 0x7F800000#32) = 1#1 := h
  rw [htop] at h
  unfold Ideal.cmp at h
  induction v with
  | bot => simp at h
  | top => simp at h
  | coe r => exact ⟨r, rfl⟩

theorem finite [Cert.Pre_finite_inputs.Facts] (h : (Cert.Pre_finite_inputs.fn (F := Ideal) x w1 w3 w2 g b).1 = fun _ => 1#1) (R : Fin 65536) (i : Fin 1024) : ∃ r : ℝ, x (ix2 R i) = (r : EReal) := by
  have h := congrFun h (ix2 R i)
  exact real_of_lt _ h

theorem finite' [Cert.Pre_finite_inputs.Facts] (h : (Cert.Pre_finite_inputs.fn (F := Ideal) x w1 w3 w2 g b).2 = fun _ => 1#1) (i : Fin 1024) (k : Fin 2816) : ∃ r : ℝ, w1 (ix2 i k) = (r : EReal) := by
  have h := congrFun h (ix2 i k)
  exact real_of_lt _ h

/-- The precondition's own side conditions. -/
instance facts : Cert.Pre_finite_inputs.Facts := ⟨by decide, by decide⟩

/-- What the reference computes is what the call computes. -/
theorem eq [Cert.Pre_finite_inputs.Facts] (h0 : (Cert.Pre_finite_inputs.fn (F := Ideal) x w1 w3 w2 g b).1 = fun _ => 1#1)
    (h1 : (Cert.Pre_finite_inputs.fn (F := Ideal) x w1 w3 w2 g b).2 = fun _ => 1#1) :
    val_main_v31 (F := Ideal) x w1 w3 w2 g b = result x w1 w3 w2 g b := by
  funext j
  obtain ⟨R, d, rfl⟩ : ∃ (R : Fin 65536) (d : Fin 1024), j = ix2 R d := ⟨_, _, eq_ix2 j⟩
  rw [v31_at, show rsum x w1 w3 w2 R = sum x w1 w3 w2 R from funext fun d => sum_eq x w1 w3 w2 (finite x w1 w3 w2 g b h0) (finite' x w1 w3 w2 g b h1) R d]
  rfl

end Cert.Kernel2Ideal.Ffn

end
-- ==== Proof.AttnPay.lean ====
module
public import proofs.«01_k».proof.Proof.Gen.KernelIdeal.Value
public import proofs.«01_k».proof.Proof.Rows
@[expose] public section
set_option maxRecDepth 16384
noncomputable section

/-! The attention call: the values its body computes for one group of four heads and one block of 128 queries, as the
    body composes them and read at an index. -/

namespace Cert.KernelIdeal.Attn
open Idealize.ShloMosaic Idealize.ShloMosaic.TcCoe Idealize.SL.Sem
open Cert.KernelIdeal Cert.KernelIdeal.Gen Cert.Rows

/-- One head's queries over zeros, and zeros over them: the 128 rows that a pair of key heads is multiplied by. -/
def colE (q : Vec Ideal S64x128 .bf16) : FVec Ideal S128x128 .bf16 :=
  concatenate S128x128 0 [⟨S64x128, shapeCast S64x128 q shapeCasts_S64x128_S64x128⟩, ⟨S64x128, k0_pay10 (F := Ideal)⟩] concatenates_S64x128_S64x128_S128x128_d0
def colO (q : Vec Ideal S64x128 .bf16) : FVec Ideal S128x128 .bf16 :=
  concatenate S128x128 0 [⟨S64x128, k0_pay10 (F := Ideal)⟩, ⟨S64x128, shapeCast S64x128 q shapeCasts_S64x128_S64x128⟩] concatenates_S64x128_S64x128_S128x128_d0

/-- The scores of 256 keys against four heads' queries. -/
def scoresV (o : ℕ) (ho : S256x256.Slices ![0, o] S256x128) (kp kc : Vec Ideal S128x256 .bf16) (c0 c1 c2 c3 : FVec Ideal S128x128 .bf16) : FVec Ideal S256x512 .f32 :=
  matmul dot_S256x128_S128x512_S256x512_1_0_0_1_n_n none
    (extractStridedSlice S256x128 ![0, o]
      (concatenate S256x256 0 [⟨S128x256, shapeCast S128x256 kp shapeCasts_S128x256_S128x256⟩, ⟨S128x256, shapeCast S128x256 kc shapeCasts_S128x256_S128x256⟩]
        concatenates_S128x256_S128x256_S256x256_d0 : FVec Ideal S256x256 .bf16) ho)
    (concatenate S128x512 1 [⟨S128x128, c0⟩, ⟨S128x128, c1⟩, ⟨S128x128, c2⟩, ⟨S128x128, c3⟩] concatenates_S128x128_S128x128_S128x128_S128x128_S128x512_d1 : FVec Ideal S128x512 .bf16)
    (constant S256x512 .f32 0x00000000#32)

/-- A key's score is the one against the block before where that key is kept, the one against its own block elsewhere. -/
def pickV (s : FVec Ideal S256x512 .f32) : FVec Ideal S128x512 .f32 :=
  select k0_pay7 (extractStridedSlice S128x512 ![0, 0] s slices_S256x512_o0_0_S128x512) (extractStridedSlice S128x512 ![128, 0] s slices_S256x512_o128_0_S128x512)
/-- The same with the first block's bias. -/
def pickHalo (hb : Ideal .f32) (s : FVec Ideal S256x512 .f32) : FVec Ideal S128x512 .f32 :=
  select k0_pay7 (addf (extractStridedSlice S128x512 ![0, 0] s slices_S256x512_o0_0_S128x512) (broadcast S128x512 hb))
    (extractStridedSlice S128x512 ![128, 0] s slices_S256x512_o128_0_S128x512)

/-- Four heads' sinks, each over its 128 queries. -/
def sinkV (s0 s1 s2 s3 : Elt Ideal .f32) : FVec Ideal S1x512 .f32 :=
  concatenate S1x512 1 [⟨S1x128, broadcast S1x128 (Scalar.mulf (F := Ideal) (φ := .f32) s0 (Named.named (F := Ideal) (φ := .f32) κ "log2e" 0x3FB8AA3B#32))⟩,
    ⟨S1x128, broadcast S1x128 (Scalar.mulf (F := Ideal) (φ := .f32) s1 (Named.named (F := Ideal) (φ := .f32) κ "log2e" 0x3FB8AA3B#32))⟩,
    ⟨S1x128, broadcast S1x128 (Scalar.mulf (F := Ideal) (φ := .f32) s2 (Named.named (F := Ideal) (φ := .f32) κ "log2e" 0x3FB8AA3B#32))⟩,
    ⟨S1x128, broadcast S1x128 (Scalar.mulf (F := Ideal) (φ := .f32) s3 (Named.named (F := Ideal) (φ := .f32) κ "log2e" 0x3FB8AA3B#32))⟩]
    concatenates_S1x128_S1x128_S1x128_S1x128_S1x512_d1

/-- The larger of the largest score and the sink. -/
def topV (c : FVec Ideal S128x512 .f32) (sk : FVec Ideal S1x512 .f32) : FVec Ideal S1x512 .f32 :=
  maximumf (shapeCast S1x512 (multiReduction (F := Ideal) .maximumf [0] S512 c 0xFF800000#32 reduces_S128x512_S512 (.inl rfl) rfl) shapeCasts_S512_S1x512) sk
/-- The weights before they are divided by their sum. -/
def powV (c : FVec Ideal S128x512 .f32) (sk : FVec Ideal S1x512 .f32) : FVec Ideal S128x512 .f32 :=
  exp2 (subf c (broadcastTo S128x512 (topV c sk) broadcasts_S1x512_S128x512))
/-- Their sum with the sink's. -/
def denV (c : FVec Ideal S128x512 .f32) (sk : FVec Ideal S1x512 .f32) : FVec Ideal S1x512 .f32 :=
  addf (shapeCast S1x512 (multiReduction (F := Ideal) .add [0] S512 (powV c sk) 0x00000000#32 reduces_S128x512_S512 (.inl rfl) rfl) shapeCasts_S512_S1x512)
    (exp2 (subf sk (topV c sk)))
/-- The weighted sum of the values, for four heads. -/
def mixV (o : ℕ) (ho : S256x128.Slices ![o, 0] S64x128) (c : FVec Ideal S128x512 .f32) (sk : FVec Ideal S1x512 .f32) (vp : Vec Ideal S256x128 .bf16) (vc : Vec Ideal S64x128 .bf16) :
    FVec Ideal S64x512 .f32 :=
  mulf (matmul dot_S64x256_S256x512_S64x512_1_0_0_1_n_n none
      (concatenate S64x256 1 [⟨S64x128, extractStridedSlice S64x128 ![o, 0] (shapeCast S256x128 vp shapeCasts_S256x128_S256x128) ho⟩,
        ⟨S64x128, shapeCast S64x128 vc shapeCasts_S64x128_S64x128⟩] concatenates_S64x128_S64x128_S64x256_d1 : FVec Ideal S64x256 .bf16)
      (concatenate S256x512 0 [⟨S128x512, mulf (truncf .bf16 (powV c sk) bitsLt_bf16_f32) (k0_pay8 (F := Ideal))⟩,
        ⟨S128x512, mulf (truncf .bf16 (powV c sk) bitsLt_bf16_f32) (k0_pay9 (F := Ideal))⟩] concatenates_S128x512_S128x512_S256x512_d0 : FVec Ideal S256x512 .bf16)
      (constant S64x512 .f32 0x00000000#32))
    (broadcastTo S64x512 (divf (broadcast S1x512 (Scalar.ofBits (F := Ideal) .f32 0x3F800000#32)) (denV c sk)) broadcasts_S1x512_S64x512)
/-- One head's part of it, as it is stored. -/
def partV (o : ℕ) (ho : S64x512.Slices ![0, o] S64x128) (y : FVec Ideal S64x512 .f32) : FVec Ideal S64x128 .bf16 :=
  shapeCast S64x128 (truncf .bf16 (extractStridedSlice S64x128 ![0, o] y ho) bitsLt_bf16_f32) shapeCasts_S64x128_S64x128

theorem colE_at (q : Vec Ideal S64x128 .bf16) (i : Fin 128) (j : Fin 128) :
    colE q (ix2 i j) = if h : i.val < 64 then q (ix2 ⟨i.val, h⟩ j) else (0 : EReal) := by
  pointwise! [colE, k0_pay10]
theorem colO_at (q : Vec Ideal S64x128 .bf16) (i : Fin 128) (j : Fin 128) :
    colO q (ix2 i j) = if h : i.val < 64 then (0 : EReal) else q (ix2 ⟨i.val - 64, by omega⟩ j) := by
  pointwise! [colO, k0_pay10]

theorem rem_at : ∀ j : Fin 512, IntOp.remsi ArithUnit.vector (BitVec.ofNat 32 j.val) (Scalar.select (Scalar.cmpi CmpIPredicate.eq 128#32 0#32) 1#32 128#32)
    = BitVec.ofNat 32 (j.val % 128) := by decide +kernel

theorem row_at : ∀ (i j : Fin 128), IntOp.cmpi CmpIPredicate.sgt (BitVec.ofNat 32 i.val) (BitVec.ofNat 32 j.val) = if j.val < i.val then 1#1 else 0#1 := by
  decide +kernel
theorem sel_at : ∀ (j : Fin 128), (Scalar.select
        (IntOp.andi
          (IntOp.xori
            (IntOp.cmpi CmpIPredicate.slt (BitVec.ofNat 32 j.val) 0#32)
            (Scalar.cmpi CmpIPredicate.slt (Scalar.select (Scalar.cmpi CmpIPredicate.eq 128#32 0#32) 1#32 128#32) 0#32))
          (IntOp.cmpi CmpIPredicate.ne (BitVec.ofNat 32 j.val) 0#32))
        (IntOp.addi (BitVec.ofNat 32 j.val)
          (Scalar.select (Scalar.cmpi CmpIPredicate.eq 128#32 0#32) 1#32 128#32))
        (BitVec.ofNat 32 j.val)) = BitVec.ofNat 32 j.val := by decide +kernel

theorem pay7_at (i : Fin 128) (j : Fin 512) : k0_pay7 (ix2 i j) = if j.val % 128 < i.val then 1#1 else 0#1 := by
  pointwise! [k0_pay7]
  rw [rem_at]
  have := sel_at ⟨j.val % 128, Nat.mod_lt _ (by decide)⟩
  simp only at this
  rw [this]
  exact row_at i ⟨j.val % 128, Nat.mod_lt _ (by decide)⟩

theorem pay8_at (i : Fin 128) (j : Fin 512) : k0_pay8 (F := Ideal) (ix2 i j) = (if j.val % 128 < i.val then 1 else 0 : EReal) := by
  pointwise! [k0_pay8, pay7_at]
  split
  · show (((BitVec.setWidth 32 1#1).toInt : ℝ) : EReal) = 1
    norm_num
  · show (((BitVec.setWidth 32 0#1).toInt : ℝ) : EReal) = 0
    norm_num
theorem pay9_at (i : Fin 128) (j : Fin 512) : k0_pay9 (F := Ideal) (ix2 i j) = (if j.val % 128 < i.val then 0 else 1 : EReal) := by
  pointwise! [k0_pay9, k0_pay7, pay8_at]
  split
  · have : (((1 : ℝ) - 1 : ℝ) : EReal) = ((0 : ℝ) : EReal) := by rw [sub_self]
    exact this
  · simp

theorem pickV_at (s : FVec Ideal S256x512 .f32) (i : Fin 128) (j : Fin 512) :
    pickV s (ix2 i j) = if j.val % 128 < i.val then s (ix2 ⟨i.val, by omega⟩ j) else s (ix2 ⟨128 + i.val, by omega⟩ j) := by
  pointwise! [pickV, pay7_at]
  split <;> rfl
theorem pickHalo_at (hb : Ideal .f32) (s : FVec Ideal S256x512 .f32) (i : Fin 128) (j : Fin 512) :
    pickHalo hb s (ix2 i j) = (if j.val % 128 < i.val then s (ix2 ⟨i.val, by omega⟩ j) + hb else s (ix2 ⟨128 + i.val, by omega⟩ j) : EReal) := by
  pointwise! [pickHalo, pay7_at]
  split <;> rfl

/-- The largest of a row of scores and a sink. -/
def top (c : Fin 128 → EReal) (sk : EReal) : EReal := max (Finset.univ.sup c) sk
/-- What a query with scores `c` and sink `sk` takes from the values: `vp` where the key comes from the block before (the keys
    after the query's place `j`), `vc` elsewhere. -/
def cell (j : ℕ) (c : Fin 128 → EReal) (sk : EReal) (vp vc : Fin 128 → EReal) : EReal :=
  ((∑ i : Fin 128, vp i * (Ideal.exp2 (c i - top c sk) * if j < i.val then 1 else 0))
    + ∑ i : Fin 128, vc i * (Ideal.exp2 (c i - top c sk) * if j < i.val then 0 else 1))
  * Ideal.div 1 ((∑ i : Fin 128, Ideal.exp2 (c i - top c sk)) + Ideal.exp2 (sk - top c sk))

theorem topV_at (c : FVec Ideal S128x512 .f32) (sk : FVec Ideal S1x512 .f32) (j : Fin 512) :
    topV c sk (ix2 0 j) = top (fun i => c (ix2 i j)) (sk (ix2 0 j)) := by
  unfold top
  pointwise! [topV]
theorem mixV_at (o : ℕ) (ho : S256x128.Slices ![o, 0] S64x128) (c : FVec Ideal S128x512 .f32) (sk : FVec Ideal S1x512 .f32) (vp : Vec Ideal S256x128 .bf16) (vc : Vec Ideal S64x128 .bf16)
    (h : o + 64 ≤ 256) (e : Fin 64) (j : Fin 512) : mixV o ho c sk vp vc (ix2 e j)
    = cell (j.val % 128) (fun i => c (ix2 i j)) (sk (ix2 0 j)) (fun i => vp (ix2 ⟨o + e.val, by omega⟩ i)) (fun i => vc (ix2 e i)) := by
  unfold cell
  pointwise! [mixV, powV, denV, topV_at, pay8_at, pay9_at]
theorem part_at (o : ℕ) (ho : S64x512.Slices ![0, o] S64x128) (h : o + 128 ≤ 512) (y : FVec Ideal S64x512 .f32) (e : Fin 64) (j : Fin 128) :
    partV o ho y (ix2 e j) = y (ix2 e ⟨o + j.val, by omega⟩) := by
  pointwise! [partV]

/-- One of four, by the block of 128 columns. -/
def four {α : Type} (J : ℕ) (a0 a1 a2 a3 : α) : α := if J < 128 then a0 else if J - 128 < 128 then a1 else if J - 128 - 128 < 128 then a2 else a3

theorem sinkV_at (s0 s1 s2 s3 : EReal) (j : Fin 512) :
    sinkV s0 s1 s2 s3 (ix2 0 j) = four j.val s0 s1 s2 s3 * (((Real.log 2)⁻¹ : ℝ) : EReal) := by
  have hn : Named.named (F := Ideal) (φ := .f32) κ "log2e" 0x3FB8AA3B#32 = (((Real.log 2)⁻¹ : ℝ) : EReal) := rfl
  pointwise! [sinkV]
  rw [hn]
  unfold four
  split_ifs <;> first | rfl | omega
theorem col_eq (c : FVec Ideal S128x128 .bf16) (x a b : Fin 128) (h : a.val = b.val) : c (ix2 x a) = c (ix2 x b) := by
  rw [Fin.ext h]
theorem scoresV_at (o : ℕ) (ho : S256x256.Slices ![0, o] S256x128) (h : o + 128 ≤ 256) (kp kc : Vec Ideal S128x256 .bf16) (c0 c1 c2 c3 : FVec Ideal S128x128 .bf16)
    (i : Fin 256) (j : Fin 512) : scoresV o ho kp kc c0 c1 c2 c3 (ix2 i j)
      = ∑ x : Fin 128, ((if h : i.val < 128 then kp (ix2 ⟨i.val, h⟩ ⟨o + x.val, by omega⟩) else kc (ix2 ⟨i.val - 128, by omega⟩ ⟨o + x.val, by omega⟩)) : EReal)
          * four j.val c0 c1 c2 c3 (ix2 x ⟨j.val % 128, by omega⟩) := by
  have hj := j.isLt
  pointwise! [scoresV]
  refine Finset.sum_congr rfl fun x _ => congrArg _ ?_
  unfold four
  split_ifs
  all_goals first | omega | skip
  all_goals exact col_eq _ x _ _ (by first | omega | (simp only; omega))

/-- A sum over the 128 rows of which half are zeros. -/
theorem sum_lo (f : Fin 128 → EReal) (q : Fin 64 → EReal) :
    (∑ x : Fin 128, f x * (if h : x.val < 64 then q ⟨x.val, h⟩ else 0)) = ∑ d : Fin 64, f ⟨d.val, by omega⟩ * q d := by
  rw [show (∑ x : Fin 128, f x * (if h : x.val < 64 then q ⟨x.val, h⟩ else 0)) = ∑ x : Fin (64 + 64), f x * (if h : x.val < 64 then q ⟨x.val, h⟩ else 0) from rfl,
    Fin.sum_univ_add]
  simp only [Fin.val_castAdd, Fin.is_lt, dite_true, Fin.val_natAdd, Fin.eta, show ∀ d : Fin 64, ¬ 64 + d.val < 64 by omega, dite_false, mul_zero,
    Finset.sum_const_zero, add_zero]
  rfl
theorem sum_hi (f : Fin 128 → EReal) (q : Fin 64 → EReal) :
    (∑ x : Fin 128, f x * (if h : x.val < 64 then 0 else q ⟨x.val - 64, by omega⟩)) = ∑ d : Fin 64, f ⟨64 + d.val, by omega⟩ * q d := by
  rw [show (∑ x : Fin 128, f x * (if h : x.val < 64 then 0 else q ⟨x.val - 64, by omega⟩))
      = ∑ x : Fin (64 + 64), f x * (if h : x.val < 64 then 0 else q ⟨x.val - 64, by omega⟩) from rfl,
    Fin.sum_univ_add]
  simp only [Fin.val_castAdd, Fin.is_lt, dite_true, Fin.val_natAdd, Fin.eta, show ∀ d : Fin 64, ¬ 64 + d.val < 64 by omega, dite_false, mul_zero,
    Finset.sum_const_zero, zero_add, Nat.add_sub_cancel_left]
  rfl

/-- Where the key's score, at key `i` of 256, of head `four`'s query stands. -/
theorem score_at (o : ℕ) (ho : S256x256.Slices ![0, o] S256x128) (h : o + 128 ≤ 256) (kp kc : Vec Ideal S128x256 .bf16) (c0 c1 c2 c3 : FVec Ideal S128x128 .bf16)
    (i : Fin 256) (j : Fin 512) (q : Vec Ideal S64x128 .bf16) (okv : ℕ) (hkv : okv + 64 ≤ 256)
    (hq : (four j.val c0 c1 c2 c3 = colE q ∧ okv = o) ∨ (four j.val c0 c1 c2 c3 = colO q ∧ okv = o + 64)) :
    scoresV o ho kp kc c0 c1 c2 c3 (ix2 i j)
      = ∑ d : Fin 64, ((if h : i.val < 128 then kp (ix2 ⟨i.val, h⟩ ⟨okv + d.val, by omega⟩) else kc (ix2 ⟨i.val - 128, by omega⟩ ⟨okv + d.val, by omega⟩)) : EReal)
          * q (ix2 d ⟨j.val % 128, by omega⟩) := by
  rw [scoresV_at o ho h]
  rcases hq with ⟨hq, rfl⟩ | ⟨hq, rfl⟩
  · rw [hq]
    simp only [colE_at]
    exact sum_lo (fun x => if h : i.val < 128 then kp (ix2 ⟨i.val, h⟩ ⟨okv + x.val, by omega⟩) else kc (ix2 ⟨i.val - 128, by omega⟩ ⟨okv + x.val, by omega⟩))
      (fun d => q (ix2 d ⟨j.val % 128, by omega⟩))
  · rw [hq]
    simp only [colO_at]
    refine (sum_hi (fun x => if h : i.val < 128 then kp (ix2 ⟨i.val, h⟩ ⟨o + x.val, by omega⟩) else kc (ix2 ⟨i.val - 128, by omega⟩ ⟨o + x.val, by omega⟩))
      (fun d => q (ix2 d ⟨j.val % 128, by omega⟩))).trans ?_
    simp only [Nat.add_assoc]

section
variable (sk : Vec Ideal S16 .f32) (qt : Vec Ideal S1024x1024 .bf16) (k : Vec Ideal S1024x256 .bf16) (kh : Vec Ideal S128x256 .bf16)
  (vt : Vec Ideal S256x1024 .bf16) (vh : Vec Ideal S256x128 .bf16) (hb : EReal)

/-- The key's column `c`, of key `i` of the block before token `J`'s. -/
def keyP (J : Fin 1024) (i : Fin 128) (c : Fin 256) : EReal :=
  if h : J.val < 128 then kh (ix2 i c) else k (ix2 ⟨128 * (J.val / 128 - 1) + i.val, by omega⟩ c)
/-- The value's row `r`, of key `i` of the block before token `J`'s. -/
def valP (J : Fin 1024) (i : Fin 128) (r : Fin 256) : EReal :=
  if h : J.val < 128 then vh (ix2 r i) else vt (ix2 r ⟨128 * (J.val / 128 - 1) + i.val, by omega⟩)

/-- The scores of the 128 keys that token `J`'s query of the head of row `R` attends. -/
def scoreS (R J : Fin 1024) (i : Fin 128) : EReal :=
  if J.val % 128 < i.val then
    (∑ d : Fin 64, keyP k kh J i ⟨64 * (R.val / 256) + d.val, by omega⟩ * qt (ix2 ⟨64 * (R.val / 64) + d.val, by omega⟩ J)) + (if J.val < 128 then hb else 0)
  else ∑ d : Fin 64, k (ix2 ⟨128 * (J.val / 128) + i.val, by omega⟩ ⟨64 * (R.val / 256) + d.val, by omega⟩) * qt (ix2 ⟨64 * (R.val / 64) + d.val, by omega⟩ J)

/-- The attention of the tile: row `R` is component `R % 64` of head `R / 64`, column `J` the token. -/
def yat (R J : Fin 1024) : EReal :=
  cell (J.val % 128) (scoreS qt k kh hb R J) (sk (ix1 ⟨R.val / 64, by omega⟩) * (((Real.log 2)⁻¹ : ℝ) : EReal))
    (fun i => valP vt vh J i ⟨64 * (R.val / 256) + R.val % 64, by omega⟩)
    (fun i => vt (ix2 ⟨64 * (R.val / 256) + R.val % 64, by omega⟩ ⟨128 * (J.val / 128) + i.val, by omega⟩))

/-- The value stored for one head and one block of queries, from what the stages before it hold. -/
theorem stored_core (R J : Fin 1024) (e : Fin 64) (j : Fin 128) (og ov : ℕ) (hog : S64x512.Slices ![0, og] S64x128) (hov : S256x128.Slices ![ov, 0] S64x128)
    (b1 : og + 128 ≤ 512) (b2 : ov + 64 ≤ 256) (hj : (og + j.val) % 128 = J.val % 128)
    (c : FVec Ideal S128x512 .f32) (sv : FVec Ideal S1x512 .f32) (vp : Vec Ideal S256x128 .bf16) (vc : Vec Ideal S64x128 .bf16)
    (hc : ∀ i : Fin 128, c (ix2 i ⟨og + j.val, by omega⟩) = scoreS qt k kh hb R J i)
    (hs : sv (ix2 0 ⟨og + j.val, by omega⟩) = (sk (ix1 ⟨R.val / 64, by omega⟩) * (((Real.log 2)⁻¹ : ℝ) : EReal) : EReal))
    (hp : ∀ i : Fin 128, vp (ix2 ⟨ov + e.val, by omega⟩ i) = valP vt vh J i ⟨64 * (R.val / 256) + R.val % 64, by omega⟩)
    (hv : ∀ i : Fin 128, vc (ix2 e i) = vt (ix2 ⟨64 * (R.val / 256) + R.val % 64, by omega⟩ ⟨128 * (J.val / 128) + i.val, by omega⟩)) :
    partV og hog (mixV ov hov c sv vp vc) (ix2 e j) = yat sk qt k kh vt vh hb R J := by
  rw [part_at og hog b1, mixV_at ov hov _ _ _ _ b2]
  unfold yat
  simp only [hc, hs, hp, hv, hj]

theorem four_j {α : Type} (og : ℕ) (j : Fin 128) (h : og % 128 = 0) (a0 a1 a2 a3 : α) : four (og + j.val) a0 a1 a2 a3 = four og a0 a1 a2 a3 := by
  unfold four
  split_ifs <;> first | rfl | omega

theorem ld2 {n0 n1 m0 m1 : ℕ} {φ : EltTy} (v : Vec Ideal ⟨2, ![n0, n1]⟩ φ) (o0 o1 : ℕ)
    (i : ∀ a, (![o0, o1] : Fin 2 → ℕ) a + (![m0, m1] : Fin 2 → ℕ) a ≤ (⟨2, ![n0, n1]⟩ : Shape).size a) (a : Fin m0) (b : Fin m1)
    (A : Fin n0) (B : Fin n1) (hA : A.val = o0 + a.val) (hB : B.val = o1 + b.val) :
    View.ld v (Rect.unit (s := ⟨2, ![n0, n1]⟩) ![o0, o1] ![m0, m1] i) (ix2 a b) = v (ix2 A B) := by
  refine View.ld_unit_apply_of v _ _ i _ _ fun d => ?_
  fin_cases d
  · exact hA
  · exact hB

theorem ld_all {n0 n1 : ℕ} {φ : EltTy} (v : Vec Ideal ⟨2, ![n0, n1]⟩ φ) (i : ∀ a, (![0, 0] : Fin 2 → ℕ) a + (![n0, n1] : Fin 2 → ℕ) a ≤ (⟨2, ![n0, n1]⟩ : Shape).size a) :
    View.ld v (Rect.unit (s := ⟨2, ![n0, n1]⟩) ![0, 0] ![n0, n1] i) = v :=
  View.ld_unit_zero (by funext a; fin_cases a <;> rfl) i v

theorem four_0 {α : Type} (a b c d : α) : four 0 a b c d = a := rfl
theorem four_1 {α : Type} (a b c d : α) : four 128 a b c d = b := rfl
theorem four_2 {α : Type} (a b c d : α) : four 256 a b c d = c := rfl
theorem four_3 {α : Type} (a b c d : α) : four 384 a b c d = d := rfl

section
variable (y : S1024x1024.Idx) (x : S64x128.Idx) (oR oJ o og ov : ℕ)
    (h0 : (y 0).val = oR + (x 0).val) (h1 : (y 1).val = oJ + (x 1).val)
    (ho : S256x256.Slices ![0, o] S256x128) (hog : S64x512.Slices ![0, og] S64x128) (hov : S256x128.Slices ![ov, 0] S64x128)
    (c0 c1 c2 c3 : FVec Ideal S128x128 .bf16) (s0 s1 s2 s3 : Elt Ideal .f32)
    (kp kc : Vec Ideal S128x256 .bf16) (vp : Vec Ideal S256x128 .bf16) (vc : Vec Ideal S64x128 .bf16)
    (i2 : ∀ a, (![oJ, 0] : Fin 2 → ℕ) a + (![128, 256] : Fin 2 → ℕ) a ≤ S1024x256.size a)
    (i4 : ∀ a, (![ov, oJ] : Fin 2 → ℕ) a + (![64, 128] : Fin 2 → ℕ) a ≤ S256x1024.size a)
    (i5 : ∀ a, (![oR, oJ] : Fin 2 → ℕ) a + (![64, 128] : Fin 2 → ℕ) a ≤ S1024x1024.size a)
    (hR : oR + 64 ≤ 1024)
    (i6 : ∀ a, (![oR / 64] : Fin 1 → ℕ) a + (![1] : Fin 1 → ℕ) a ≤ S16.size a) (h6 : 0 < (Rect.unit (s := S16) ![oR / 64] ![1] i6).shape.numel)
    (hs : ∃ s, four og s0 s1 s2 s3 = s ∧ s = View.ld sk (Rect.unit (s := S16) ![oR / 64] ![1] i6) (Shape.Idx.first h6))
    (hc : ∃ q, ((four og c0 c1 c2 c3 = colE q ∧ ov = o) ∨ (four og c0 c1 c2 c3 = colO q ∧ ov = o + 64))
      ∧ q = View.ld qt (Rect.unit (s := S1024x1024) ![oR, oJ] ![64, 128] i5))
    (ekc : kc = View.ld k (Rect.unit (s := S1024x256) ![oJ, 0] ![128, 256] i2))
    (evc : vc = View.ld vt (Rect.unit (s := S256x1024) ![ov, oJ] ![64, 128] i4))
    (e2 : oJ % 128 = 0 ∧ oR % 64 = 0 ∧ og = 2 * (oR % 256) ∧ ov = 64 * (oR / 256) ∧ o + 128 ≤ 256)

include h0 h1 hR hs hc e2 ekc evc

/-- From the second block on. -/
theorem stored
    (i1 : ∀ a, (![oJ - 128, 0] : Fin 2 → ℕ) a + (![128, 256] : Fin 2 → ℕ) a ≤ S1024x256.size a)
    (i3 : ∀ a, (![0, oJ - 128] : Fin 2 → ℕ) a + (![256, 128] : Fin 2 → ℕ) a ≤ S256x1024.size a)
    (ekp : kp = View.ld k (Rect.unit (s := S1024x256) ![oJ - 128, 0] ![128, 256] i1))
    (evp : vp = View.ld vt (Rect.unit (s := S256x1024) ![0, oJ - 128] ![256, 128] i3))
    (e1 : 128 ≤ oJ) :
    partV og hog (mixV ov hov (pickV (scoresV o ho kp kc c0 c1 c2 c3)) (sinkV s0 s1 s2 s3) vp vc) x
    = yat sk qt k kh vt vh hb (y 0) (y 1) := by
  obtain ⟨_, hs, rfl⟩ := hs
  obtain ⟨_, hc, rfl⟩ := hc
  subst ekc evc ekp evp
  obtain ⟨e, j, rfl⟩ : ∃ (e : Fin 64) (j : Fin 128), x = ix2 e j := ⟨x 0, x 1, (ix2_eta x).symm⟩
  obtain ⟨R, J, rfl⟩ : ∃ (R J : Fin 1024), y = ix2 R J := ⟨y 0, y 1, (ix2_eta y).symm⟩
  simp only [ix2_0, ix2_1] at h0 h1 ⊢
  have el := e.isLt
  have hj := j.isLt
  have hRl := R.isLt
  have hJl := J.isLt
  refine stored_core _ _ _ _ _ _ _ R J e j og ov hog hov (by omega) (by omega) (by omega) _ _ _ _ (fun i => ?_) ?_ (fun i => ?_) fun i => ?_
  · rw [pickV_at, score_at o ho (by omega) _ _ _ _ _ _ _ _ _ ov (by omega) (by simpa only [four_j og j (by omega)] using hc),
      score_at o ho (by omega) _ _ _ _ _ _ _ _ _ ov (by omega) (by simpa only [four_j og j (by omega)] using hc)]
    unfold scoreS
    refine if_congr (by simp only; omega) ?_ ?_
    · rw [if_neg (by omega), add_zero]
      refine Finset.sum_congr rfl fun d _ => ?_
      unfold keyP
      rw [dif_pos (show (⟨i.val, by omega⟩ : Fin 256).val < 128 from i.isLt), dif_neg (by omega)]
      exact congrArg₂ _ (ld2 k (oJ - 128) 0 i1 _ _ _ _ (by simp only; omega) (by simp only; omega)) (ld2 qt oR oJ i5 _ _ _ _ (by simp only; omega) (by simp only; omega))
    · refine Finset.sum_congr rfl fun d _ => ?_
      rw [dif_neg (by simp only; omega)]
      exact congrArg₂ _ (ld2 k oJ 0 i2 _ _ _ _ (by simp only; omega) (by simp only; omega)) (ld2 qt oR oJ i5 _ _ _ _ (by simp only; omega) (by simp only; omega))
  · rw [sinkV_at]
    refine congrArg (· * _) ?_
    rw [four_j og j (by omega), hs]
    refine View.ld_unit_apply_of sk _ _ i6 _ _ fun a => ?_
    fin_cases a
    show R.val / 64 = oR / 64 + 0
    omega
  · unfold valP
    rw [dif_neg (by omega)]
    exact ld2 vt 0 (oJ - 128) i3 _ _ _ _ (by simp only; omega) (by simp only; omega)
  · exact ld2 vt ov oJ i4 _ _ _ _ (by simp only; omega) (by simp only; omega)
/-- In the first block, whose keys before it are the tile before's last. -/
theorem storedHalo
    (ekp : kp = kh) (evp : vp = vh) (e1 : oJ = 0) :
    partV og hog (mixV ov hov (pickHalo hb (scoresV o ho kp kc c0 c1 c2 c3)) (sinkV s0 s1 s2 s3) vp vc) x
    = yat sk qt k kh vt vh hb (y 0) (y 1) := by
  obtain ⟨_, hs, rfl⟩ := hs
  obtain ⟨_, hc, rfl⟩ := hc
  subst ekc evc ekp evp
  obtain ⟨e, j, rfl⟩ : ∃ (e : Fin 64) (j : Fin 128), x = ix2 e j := ⟨x 0, x 1, (ix2_eta x).symm⟩
  obtain ⟨R, J, rfl⟩ : ∃ (R J : Fin 1024), y = ix2 R J := ⟨y 0, y 1, (ix2_eta y).symm⟩
  simp only [ix2_0, ix2_1] at h0 h1 ⊢
  have el := e.isLt
  have hj := j.isLt
  have hRl := R.isLt
  have hJl := J.isLt
  refine stored_core _ _ _ _ _ _ _ R J e j og ov hog hov (by omega) (by omega) (by omega) _ _ _ _ (fun i => ?_) ?_ (fun i => ?_) fun i => ?_
  · rw [pickHalo_at, score_at o ho (by omega) _ _ _ _ _ _ _ _ _ ov (by omega) (by simpa only [four_j og j (by omega)] using hc),
      score_at o ho (by omega) _ _ _ _ _ _ _ _ _ ov (by omega) (by simpa only [four_j og j (by omega)] using hc)]
    unfold scoreS
    refine if_congr (by simp only; omega) ?_ ?_
    · rw [if_pos (show J.val < 128 by omega)]
      refine congrArg (· + hb) ?_
      refine Finset.sum_congr rfl fun d _ => ?_
      unfold keyP
      rw [dif_pos (show (⟨i.val, by omega⟩ : Fin 256).val < 128 from i.isLt), dif_pos (by omega)]
      exact congrArg₂ _ (congrArg (fun t => kp (ix2 i t)) (Fin.ext (by simp only; omega))) (ld2 qt oR oJ i5 _ _ _ _ (by simp only; omega) (by simp only; omega))
    · refine Finset.sum_congr rfl fun d _ => ?_
      rw [dif_neg (by simp only; omega)]
      exact congrArg₂ _ (ld2 k oJ 0 i2 _ _ _ _ (by simp only; omega) (by simp only; omega)) (ld2 qt oR oJ i5 _ _ _ _ (by simp only; omega) (by simp only; omega))
  · rw [sinkV_at]
    refine congrArg (· * _) ?_
    rw [four_j og j (by omega), hs]
    refine View.ld_unit_apply_of sk _ _ i6 _ _ fun a => ?_
    fin_cases a
    show R.val / 64 = oR / 64 + 0
    omega
  · unfold valP
    rw [dif_pos (by omega)]
    exact congrArg (fun t => vp (ix2 t i)) (Fin.ext (by simp only; omega))
  · exact ld2 vt ov oJ i4 _ _ _ _ (by simp only; omega) (by simp only; omega)
end
end
/-- A buffer that is stored whole, in pieces, reads whole as what the pieces hold. -/
theorem readCov_whole {sig : RefSig} {κ : Kind} {sp : Space} (v : View sig κ sp S1024x1024 .bf16)
    (inb : ∀ a, (![0, 0] : Fin 2 → ℕ) a + (![1024, 1024] : Fin 2 → ℕ) a ≤ S1024x1024.size a)
    (L : List (View.Piece (Elt Ideal) S1024x1024 .bf16)) (Y : Vec Ideal S1024x1024 .bf16)
    (hc : ∀ y, View.canon L y = Y y) :
    v.readCov L (Rect.unit (s := S1024x1024) ![0, 0] ![1024, 1024] inb).toLoadRect = Y := by
  have hz : (![0, 0] : Fin 2 → ℕ) = fun _ => 0 := by funext a; fin_cases a <;> rfl
  rw [View.readCov_eq_canon', show View.canon L = Y from funext hc]
  exact View.ld_unit_zero hz inb Y

section
variable (m : (ℓ : Loc nD τ sig) → Buf (Elt Ideal) ℓ)
/-- The attention of a tile. -/
def yatT (c : Dev nD) (t : Fin cfg0.N) : Vec Ideal S1024x1024 .bf16 := fun y =>
  yat (iblk m c 0 t) (iblk m c 2 t) (iblk m c 3 t) (iblk m c 4 t) (iblk m c 5 t) (iblk m c 6 t) (k0_pay6 (F := Ideal) (BitVec.ofNat 32 (grid0.coords t 0).val)) (y 0) (y 1)

end

end Cert.KernelIdeal.Attn

end
-- ==== Proof.AttnMix.lean ====
module
public import proofs.«01_k».proof.Proof.Gen.KernelIdeal.Value
public import proofs.«01_k».proof.Proof.Rows
@[expose] public section
set_option maxRecDepth 16384
noncomputable section

/-! The attention call: the gated merge of the two mixers, its projection and the layer norm, read at an index. -/

namespace Cert.KernelIdeal.Attn
open Idealize.ShloMosaic Idealize.ShloMosaic.TcCoe Idealize.SL.Sem
open Cert.KernelIdeal Cert.KernelIdeal.Gen Cert.Rows

/-- One entry of the gated merge, from a token's attention and recurrence outputs. -/
def gated (ya yh wpa wph : Fin 1024 → EReal) (ga gh : EReal) : EReal :=
  ga * (∑ k : Fin 1024, ya k * wpa k) + gh * ∑ k : Fin 1024, yh k * wph k

/-- Adding zeros to the first eight rows changes nothing. -/
theorem zero_rows (v : FVec Ideal S1024x256 .f32) (z : FVec Ideal S8x128 .f32) (hz : ∀ a b, z (ix2 a b) = (0 : EReal)) :
    (truncf .bf16 (concatenate S1024x256 0 [⟨S8x256, addf (extractStridedSlice S8x256 ![0, 0] v slices_S1024x256_o0_0_S8x256)
        (concatenate S8x256 1 [⟨S8x128, z⟩, ⟨S8x128, z⟩] concatenates_S8x128_S8x128_S8x256_d1 : FVec Ideal S8x256 .f32)⟩,
      ⟨S1016x256, extractStridedSlice S1016x256 ![8, 0] v slices_S1024x256_o8_0_S1016x256⟩] concatenates_S8x256_S1016x256_S1024x256_d0 : FVec Ideal S1024x256 .f32)
      bitsLt_bf16_f32 : FVec Ideal S1024x256 .bf16) = v := by
  funext y
  obtain ⟨r, j, rfl⟩ : ∃ (r : Fin 1024) (j : Fin 256), y = ix2 r j := ⟨y 0, y 1, (ix2_eta y).symm⟩
  pointwise! [hz]
  by_cases h : r.val < 8
  · rw [dif_pos h]
    split_ifs <;> exact add_zero _
  · rw [dif_neg h]
    exact congrArg (fun a => v (ix2 a j)) (Fin.ext (by simp only; omega))

theorem pay401_eq (v : FVec Ideal S1024x256 .f32) : k0_pay401 (F := Ideal) v k0_pay397 = v := by
  unfold k0_pay401
  exact zero_rows v _ fun a b => by pointwise! [k0_pay397]
theorem pay406_eq (v : FVec Ideal S1024x256 .f32) : k0_pay406 (F := Ideal) v k0_pay404 = v := by
  unfold k0_pay406
  exact zero_rows v _ fun a b => by pointwise! [k0_pay404]
theorem pay413_eq (v : FVec Ideal S1024x256 .f32) : k0_pay413 (F := Ideal) v k0_pay410 = v := by
  unfold k0_pay413
  exact zero_rows v _ fun a b => by pointwise! [k0_pay410]

/-- Four chunks side by side. -/
theorem pay421_at (a0 a1 a2 : FVec Ideal S1024x256 .bf16) (a3 : FVec Ideal S1024x256 .f32) (r : Fin 1024) (j : Fin 1024) (M : Fin 1024 → EReal)
    (h0 : ∀ i : Fin 256, a0 (ix2 r i) = M ⟨i.val, by omega⟩) (h1 : ∀ i : Fin 256, a1 (ix2 r i) = M ⟨256 + i.val, by omega⟩)
    (h2 : ∀ i : Fin 256, a2 (ix2 r i) = M ⟨512 + i.val, by omega⟩) (h3 : ∀ i : Fin 256, a3 (ix2 r i) = M ⟨768 + i.val, by omega⟩) :
    k0_pay421 (F := Ideal) a0 a1 a2 a3 (k0_pay417 k0_pay415) (ix2 r j) = M j := by
  unfold k0_pay421
  rw [zero_rows a3 _ fun a b => by pointwise! [k0_pay417, k0_pay415]]
  pointwise! [h0, h1, h2, h3]
  split_ifs <;> exact congrArg M (Fin.ext (by first | omega | (simp only; done) | (simp only; omega)))

section
variable (M : FVec Ideal S1024x1024 .bf16) (w : Vec Ideal S1024x256 .bf16) (x : Vec Ideal S1024x256 .f32) (r : Fin 1024) (d : Fin 256)
theorem pay5_at : k0_pay5 (F := Ideal) M w x (ix2 r d) = Ideal.ofBits .f32 0x3F9837F0#32 * x (ix2 r d) + ∑ k : Fin 1024, M (ix2 r k) * w (ix2 k d) := by
  pointwise! [k0_pay5]
theorem pay4_at : k0_pay4 (F := Ideal) M w x (ix2 r d) = Ideal.ofBits .f32 0x3F9837F0#32 * x (ix2 r d) + ∑ k : Fin 1024, M (ix2 r k) * w (ix2 k d) := by
  pointwise! [k0_pay4]
end
section
variable (a0 a1 a2 : FVec Ideal S1024x256 .bf16) (a3 : FVec Ideal S1024x256 .f32) (z : FVec Ideal S8x128 .f32) (w : Vec Ideal S1024x256 .bf16) (x : Vec Ideal S1024x256 .f32)
theorem pay3_eq : k0_pay3 (F := Ideal) (k0_pay423 a0 a1 a2 a3 z w x) = k0_pay5 (k0_pay421 a0 a1 a2 a3 z) w x := rfl
theorem pay422_eq : k0_pay422 (F := Ideal) a0 a1 a2 a3 z w x = k0_pay5 (k0_pay421 a0 a1 a2 a3 z) w x := rfl
end

section
variable (Y yh : Vec Ideal S1024x1024 .bf16) (wpa wph ga gh : Vec Ideal S1024x256 .bf16) (r : Fin 1024) (j : Fin 256)
/-- One entry of a chunk of the merge. -/
def chunk : EReal := gated (fun k => Y (ix2 k r)) (fun k => yh (ix2 r k)) (fun k => wpa (ix2 k j)) (fun k => wph (ix2 k j)) (ga (ix2 r j)) (gh (ix2 r j))
theorem pay396_at : k0_pay396 (F := Ideal) (k0_pay29 (k0_pay11 yh) wph) Y wpa ga gh (ix2 r j) = chunk Y yh wpa wph ga gh r j := by
  pointwise! [k0_pay396, k0_pay29, k0_pay11, chunk, gated]
theorem pay402_at (h : S1024x256.ShapeCasts S1024x256) : k0_pay402 (F := Ideal) (matmul dot_S1024x1024_S1024x256_S1024x256_1_0_0_1_n_n none (k0_pay11 yh) (shapeCast S1024x256 wph h : FVec Ideal S1024x256 .bf16)
      (constant S1024x256 FTy.f32 0#32)) Y wpa ga gh (ix2 r j) = chunk Y yh wpa wph ga gh r j := by
  pointwise! [k0_pay402, k0_pay11, chunk, gated]
theorem pay408_at : k0_pay408 (F := Ideal) (k0_pay220 (k0_pay11 yh) wph) (k0_pay407 Y wpa ga) gh (ix2 r j) = chunk Y yh wpa wph ga gh r j := by
  pointwise! [k0_pay408, k0_pay407, k0_pay220, k0_pay11, chunk, gated]
theorem pay414_at (h : S1024x256.ShapeCasts S1024x256) : k0_pay414 (F := Ideal) (matmul dot_S1024x1024_S1024x256_S1024x256_1_0_0_1_n_n none (k0_pay11 yh) (shapeCast S1024x256 wph h : FVec Ideal S1024x256 .bf16)
      (constant S1024x256 FTy.f32 0#32)) Y wpa ga gh (ix2 r j) = chunk Y yh wpa wph ga gh r j := by
  pointwise! [k0_pay414, k0_pay11, chunk, gated]
end

section
variable (x : Vec Ideal S1024x1024 .f32) (Y yh ga gh wpa wph wo : Vec Ideal S1024x1024 .bf16) (r : Fin 1024)
/-- Column `j` of the merge, from whole arrays. -/
def merged (j : Fin 1024) : EReal :=
  gated (fun k => Y (ix2 k r)) (fun k => yh (ix2 r k)) (fun k => wpa (ix2 k j)) (fun k => wph (ix2 k j)) (ga (ix2 r j)) (gh (ix2 r j))
/-- The residual sum before the layer norm. -/
def resid (d : Fin 1024) : EReal := Ideal.ofBits .f32 0x3F9837F0#32 * x (ix2 r d) + ∑ j : Fin 1024, merged Y yh ga gh wpa wph r j * wo (ix2 j d)

/-- A chunk loaded from the whole arrays at column `o`. -/
theorem chunk_ld (o : ℕ) (i : ∀ a, (![0, o] : Fin 2 → ℕ) a + (![1024, 256] : Fin 2 → ℕ) a ≤ S1024x1024.size a) (j : Fin 256) (J : Fin 1024) (hJ : J.val = o + j.val) :
    chunk Y yh (View.ld wpa (Rect.unit (s := S1024x1024) ![0, o] ![1024, 256] i)) (View.ld wph (Rect.unit (s := S1024x1024) ![0, o] ![1024, 256] i))
      (View.ld ga (Rect.unit (s := S1024x1024) ![0, o] ![1024, 256] i)) (View.ld gh (Rect.unit (s := S1024x1024) ![0, o] ![1024, 256] i)) r j
    = merged Y yh ga gh wpa wph r J := by
  have h : ∀ (w : Vec Ideal S1024x1024 .bf16) (k : Fin 1024), View.ld w (Rect.unit (s := S1024x1024) ![0, o] ![1024, 256] i) (ix2 k j) = w (ix2 k J) := fun w k =>
    View.ld_unit_apply_of w _ _ i _ _ fun a => by
      fin_cases a
      · exact (Nat.zero_add _).symm
      · exact hJ
  exact congr (congr (congr (congrArg (gated _ _) (funext fun k => h wpa k)) (funext fun k => h wph k)) (h ga r)) (h gh r)
end

/-! The layer norm of a slab of rows. -/
section norms
variable (v : Vec Ideal S128x1024 .f32) (g b : Vec Ideal S1x1024 .f32) (r : Fin 128) (d : Fin 1024)

/-- Row `r` of a slab, normalised. -/
def slab (v : Vec Ideal S128x1024 .f32) (g b : Vec Ideal S1x1024 .f32) (r : Fin 128) (d : Fin 1024) : EReal :=
  lnRow (fun k => v (ix2 r k)) (fun k => g (ix2 0 k)) (fun k => b (ix2 0 k)) d

theorem pay399_at : k0_pay399 (F := Ideal) g b (k0_pay398 v) (ix2 r d) = slab v g b r d := by
  pointwise! [k0_pay399, k0_pay398, slab, lnRow, mean]
theorem pay400_at : k0_pay400 (F := Ideal) v g b (ix2 r d) = slab v g b r d := by
  pointwise! [k0_pay400, slab, lnRow, mean]
theorem pay403_at : k0_pay403 (F := Ideal) v g b (ix2 r d) = slab v g b r d := by
  pointwise! [k0_pay403, slab, lnRow, mean]
theorem pay405_at : k0_pay405 (F := Ideal) v g b (ix2 r d) = slab v g b r d := by
  pointwise! [k0_pay405, slab, lnRow, mean]
theorem pay409_at : k0_pay409 (F := Ideal) v g b (ix2 r d) = slab v g b r d := by
  pointwise! [k0_pay409, slab, lnRow, mean]
theorem pay412_at : k0_pay412 (F := Ideal) v g b (k0_pay411 v) (ix2 r d) = slab v g b r d := by
  pointwise! [k0_pay412, k0_pay411, slab, lnRow, mean]
theorem pay416_at : k0_pay416 (F := Ideal) v g b (ix2 r d) = slab v g b r d := by
  pointwise! [k0_pay416, slab, lnRow, mean]
theorem pay420_at : k0_pay420 (F := Ideal) g b (k0_pay418 v) (k0_pay419 v) (FloatOps.ofBits FTy.f32 1149239296#32) (ix2 r d) = slab v g b r d := by
  pointwise! [k0_pay420, k0_pay418, k0_pay419, slab, lnRow, mean]
theorem pay2_at (v : Vec Ideal S1024x1024 .f32) (r : Fin 1024) : k0_pay2 (F := Ideal) v g b (ix2 r d)
    = lnRow (fun k => v (ix2 r k)) (fun k => g (ix2 0 k)) (fun k => b (ix2 0 k)) d := by
  pointwise! [k0_pay2, lnRow, mean]

/-- A slab loaded from a tile at row `o`. -/
theorem slab_ld (X : Vec Ideal S1024x1024 .f32) (o : ℕ) (i : ∀ a, (![o, 0] : Fin 2 → ℕ) a + (![128, 1024] : Fin 2 → ℕ) a ≤ S1024x1024.size a)
    (R : Fin 1024) (hR : R.val = o + r.val) : slab (View.ld X (Rect.unit (s := S1024x1024) ![o, 0] ![128, 1024] i)) g b r d
    = lnRow (fun k => X (ix2 R k)) (fun k => g (ix2 0 k)) (fun k => b (ix2 0 k)) d := by
  unfold slab
  congr 1
  funext k
  pointwise
  exact congrArg X ((ix2_inj ..).2 ⟨Fin.ext hR.symm, rfl⟩)
end norms

section
variable (m : (ℓ : Loc nD τ sig) → Buf (Elt Ideal) ℓ)

/-- The carried tile reads as the point before left it. -/
theorem read_carried (X : Vec Ideal S1024x1024 .f32) (h : scM0_0.IsWhole) :
    View.read (Elt Ideal) (View.whole cc0_scratch0) (h.unread X) = X := h.read_unread X

/-- Row `r` of the tile the point before left, normalised with the block's gain and bias. -/
def norm (c : Dev nD) (t : Fin cfg0.N) (r : Fin 1024) (d : Fin 1024) : EReal :=
  lnRow (fun k => (outsAt0 m c (t.val - 1) (Nat.lt_of_le_of_lt (Nat.sub_le _ _) t.isLt)).2 (ix2 r k))
    (fun k => (iblk m c 13 t : Vec Ideal S1x1024 .f32) (ix2 0 k)) (fun k => (iblk m c 14 t : Vec Ideal S1x1024 .f32) (ix2 0 k)) d

theorem out_C (c : Dev nD) (t : Fin cfg0.N) (h0 : ¬t.val % 65 = 0) (h1 : t.val % 65 = 64) (h2 : ¬t.val < 64) (r : Fin 1024) (d : Fin 1024) :
    (outsAt0 m c t.val t.isLt).1 (ix2 r d) = norm m c t r d := by
  rw [outsAt0_C m c t h0 h1 h2]
  frame_out
  rw [read_carried]
  exact pay2_at _ _ _ _ _

theorem out_B (c : Dev nD) (t : Fin cfg0.N) (h0 : ¬t.val % 65 = 0) (h1 : ¬t.val % 65 = 64) (h2 : t.val < 64) (y : S1024x1024.Idx) :
    (outsAt0 m c t.val t.isLt).1 y = norm m c t (y 0) (y 1) := by
  rw [outsAt0_B m c t h0 h1 h2]
  frame_out
  rw [read_carried]
  canon_tiles x h
  all_goals
    obtain ⟨a, b, rfl⟩ : ∃ (a : Fin 128) (b : Fin 1024), x = ix2 a b := ⟨_, _, eq_ix2 x⟩
    refine Eq.trans ?_ (congrArg (norm m c t (y 0)) (Fin.ext h1 : y 1 = b).symm)
    simp only [pay399_at, pay400_at, pay403_at, pay405_at, pay409_at, pay412_at, pay416_at, pay420_at]
    first
      | exact slab_ld _ _ _ _ _ _ _ (y 0) h0
      | exact slab_ld _ _ _ _ _ _ _ (y 0) (h0.trans (Nat.zero_add _).symm)

/-- What a point after the first leaves in the result's buffer. -/
theorem out (c : Dev nD) (t : Fin cfg0.N) (h : 0 < t.val) (y : S1024x1024.Idx) :
    (outsAt0 m c t.val t.isLt).1 y = norm m c t (y 0) (y 1) := by
  have ht : t.val < 65 := lt_of_lt_of_eq t.isLt Gen.N_0
  by_cases h2 : t.val < 64
  · exact out_B m c t (by omega) (by omega) h2 y
  · exact (congrArg _ (eq_ix2 y)).trans (out_C m c t (by omega) (by omega) h2 (y 0) (y 1))

/-- The chain of the tile's four stores of the residual sum: where it is read, it is the sum. -/
theorem last_at (x : Vec Ideal S1024x1024 .f32) (Y yh ga gh wpa wph wo : Vec Ideal S1024x1024 .bf16) (y : S1024x1024.Idx) (e1 e2 : S1024x256.ShapeCasts S1024x256)
    (o : ℕ) (i : ∀ a, (![0, o] : Fin 2 → ℕ) a + (![1024, 256] : Fin 2 → ℕ) a ≤ S1024x1024.size a) (z : S1024x256.Idx) (h0 : (y 0).val = (z 0).val) (h1 : (y 1).val = o + (z 1).val) :
    k0_pay5 (F := Ideal)
            (k0_pay421
              (k0_pay401
                (k0_pay396
                  (k0_pay29 (k0_pay11 yh)
                    (View.ld wph (Rect.unit ![0, 0] ![1024, 256] inb_S1024x1024_S1024x256_0_0)))
                  Y (View.ld wpa (Rect.unit ![0, 0] ![1024, 256] inb_S1024x1024_S1024x256_0_0))
                  (View.ld ga (Rect.unit ![0, 0] ![1024, 256] inb_S1024x1024_S1024x256_0_0))
                  (View.ld gh (Rect.unit ![0, 0] ![1024, 256] inb_S1024x1024_S1024x256_0_0)))
                k0_pay397)
              (k0_pay406
                (k0_pay402
                  (matmul dot_S1024x1024_S1024x256_S1024x256_1_0_0_1_n_n none (k0_pay11 yh)
                    (shapeCast S1024x256 (View.ld wph (Rect.unit ![0, 256] ![1024, 256] inb_S1024x1024_S1024x256_0_256)) e1 : FVec Ideal S1024x256 .bf16)
                    (constant S1024x256 FTy.f32 0#32))
                  Y
                  (View.ld wpa (Rect.unit ![0, 256] ![1024, 256] inb_S1024x1024_S1024x256_0_256))
                  (View.ld ga (Rect.unit ![0, 256] ![1024, 256] inb_S1024x1024_S1024x256_0_256))
                  (View.ld gh (Rect.unit ![0, 256] ![1024, 256] inb_S1024x1024_S1024x256_0_256)))
                k0_pay404)
              (k0_pay413
                (k0_pay408
                  (k0_pay220 (k0_pay11 yh)
                    (View.ld wph (Rect.unit ![0, 512] ![1024, 256] inb_S1024x1024_S1024x256_0_512)))
                  (k0_pay407 Y
                    (View.ld wpa (Rect.unit ![0, 512] ![1024, 256] inb_S1024x1024_S1024x256_0_512))
                    (View.ld ga (Rect.unit ![0, 512] ![1024, 256] inb_S1024x1024_S1024x256_0_512)))
                  (View.ld gh (Rect.unit ![0, 512] ![1024, 256] inb_S1024x1024_S1024x256_0_512)))
                k0_pay410)
              (k0_pay414
                (matmul dot_S1024x1024_S1024x256_S1024x256_1_0_0_1_n_n none (k0_pay11 yh)
                  (shapeCast S1024x256 (View.ld wph (Rect.unit ![0, 768] ![1024, 256] inb_S1024x1024_S1024x256_0_768)) e2 : FVec Ideal S1024x256 .bf16)
                  (constant S1024x256 FTy.f32 0#32))
                Y (View.ld wpa (Rect.unit ![0, 768] ![1024, 256] inb_S1024x1024_S1024x256_0_768))
                (View.ld ga (Rect.unit ![0, 768] ![1024, 256] inb_S1024x1024_S1024x256_0_768))
                (View.ld gh (Rect.unit ![0, 768] ![1024, 256] inb_S1024x1024_S1024x256_0_768)))
              (k0_pay417 k0_pay415))
            (View.ld wo (Rect.unit (s := S1024x1024) ![0, o] ![1024, 256] i))
            (View.ld x (Rect.unit (s := S1024x1024) ![0, o] ![1024, 256] i)) z
    = resid x Y yh ga gh wpa wph wo (y 0) (y 1) := by
  obtain ⟨a, b, rfl⟩ : ∃ (a : Fin 1024) (b : Fin 256), z = ix2 a b := ⟨_, _, eq_ix2 z⟩
  obtain ⟨r, d, rfl⟩ : ∃ (r d : Fin 1024), y = ix2 r d := ⟨_, _, eq_ix2 y⟩
  simp only [ix2_0, ix2_1] at h0 h1 ⊢
  obtain rfl : r = a := Fin.ext h0
  rw [pay5_at]
  unfold resid
  have hld : ∀ {φ : EltTy} (w : Vec Ideal S1024x1024 φ) (k : Fin 1024), View.ld w (Rect.unit (s := S1024x1024) ![0, o] ![1024, 256] i) (ix2 k b) = w (ix2 k d) := fun w k =>
    View.ld_unit_apply_of w _ _ i _ _ fun a => by
      fin_cases a
      · exact (Nat.zero_add _).symm
      · exact h1
  refine congr (congrArg _ (congrArg _ (hld x r))) (Finset.sum_congr rfl fun k _ => congr (congrArg _ ?_) (hld wo k))
  rw [pay401_eq, pay406_eq, pay413_eq]
  refine pay421_at _ _ _ _ r k (merged Y yh ga gh wpa wph r) (fun j => ?_) (fun j => ?_) (fun j => ?_) fun j => ?_
  · rw [pay396_at]
    exact chunk_ld Y yh ga gh wpa wph r 0 _ j _ (Nat.zero_add _).symm
  · rw [pay402_at]
    exact chunk_ld Y yh ga gh wpa wph r 256 _ j _ rfl
  · rw [pay408_at]
    exact chunk_ld Y yh ga gh wpa wph r 512 _ j _ rfl
  · rw [pay414_at]
    exact chunk_ld Y yh ga gh wpa wph r 768 _ j _ rfl
end

end Cert.KernelIdeal.Attn

end
-- ==== Proof.AttnArray.lean ====
module
public import proofs.«01_k».proof.Proof.AttnPay
public import proofs.«01_k».proof.Proof.AttnMix
public import proofs.«01_k».proof.Proof.Gen.KernelIdeal.Value
@[expose] public section
set_option maxRecDepth 16384
noncomputable section

/-! The attention call: the array it leaves, at an index. -/

namespace Cert.KernelIdeal.Attn
open Idealize.ShloMosaic Idealize.ShloMosaic.TcCoe Idealize.SL.Sem
open Cert.KernelIdeal Cert.KernelIdeal.Gen Cert.Rows
variable (m : (ℓ : Loc nD τ sig) → Buf (Elt Ideal) ℓ)

/-- Entry of token `T`, head `h`, component `d`, of an array of batches of tokens. -/
def at4 {n : ℕ} (w : Vec Ideal ⟨4, ![8, 8192, n, 64]⟩ .f32) (T : Fin 65536) (h : Fin n) (d : Fin 64) : EReal :=
  w (ix4 ⟨T.val / 8192, by omega⟩ ⟨T.val % 8192, by omega⟩ h d)

section
variable (sk : Vec Ideal S16 .f32) (q : Vec Ideal S8x8192x16x64 .f32) (k v : Vec Ideal S8x8192x4x64 .f32)
/-- A query's component, scaled. -/
def qs (T : Fin 65536) (h : Fin 16) (d : Fin 64) : EReal :=
  Ideal.div (at4 q T h d * Ideal.ofBits FTy.f32 1040187392#32) (Ideal.log (Ideal.ofBits FTy.f32 1073741824#32))
/-- The score of the query of token `T` and head `h` against its key `i`: a key of the block before where `i` is after the
    query's place, and there is none before a sequence's first block. -/
def scoreA (T : Fin 65536) (h : Fin 16) (i : Fin 128) : EReal :=
  if T.val % 128 < i.val then
    (∑ d : Fin 64, at4 k ⟨128 * (T.val / 128 - 1) + i.val, by omega⟩ ⟨h.val / 4, by omega⟩ d * qs q T h d) + (if T.val % 8192 < 128 then ⊥ else 0)
  else ∑ d : Fin 64, at4 k ⟨128 * (T.val / 128) + i.val, by omega⟩ ⟨h.val / 4, by omega⟩ d * qs q T h d
/-- The attention's output of token `T`, head `h` and component `e`. -/
def attn (T : Fin 65536) (h : Fin 16) (e : Fin 64) : EReal :=
  cell (T.val % 128) (scoreA q k T h) (sk (ix1 h) * (((Real.log 2)⁻¹ : ℝ) : EReal))
    (fun i => at4 v ⟨128 * (T.val / 128 - 1) + i.val, by omega⟩ ⟨h.val / 4, by omega⟩ e)
    (fun i => at4 v ⟨128 * (T.val / 128) + i.val, by omega⟩ ⟨h.val / 4, by omega⟩ e)
end

/-- The block of tokens a point reads. -/
theorem idx1 : ∀ t : Fin cfg0.N, win0_1.index t = ![min t.val 63, 0] := (by decide +kernel : ∀ t : Fin grid0.N, _)
theorem idx2 : ∀ t : Fin cfg0.N, win0_2.index t = ![0, min t.val 63] := (by decide +kernel : ∀ t : Fin grid0.N, _)
theorem idx3 : ∀ t : Fin cfg0.N, win0_3.index t = ![min t.val 63, 0] := (by decide +kernel : ∀ t : Fin grid0.N, _)
/-- The block of keys before it. -/
theorem idx4 : ∀ t : Fin cfg0.N, win0_4.index t = ![min t.val 63 * 8 - 1, 0] := (by decide +kernel : ∀ t : Fin grid0.N, _)
theorem idx5 : ∀ t : Fin cfg0.N, win0_5.index t = ![0, min t.val 63] := (by decide +kernel : ∀ t : Fin grid0.N, _)
theorem idx6 : ∀ t : Fin cfg0.N, win0_6.index t = ![0, min t.val 63 * 8 - 1] := (by decide +kernel : ∀ t : Fin grid0.N, _)
theorem idx7 : ∀ t : Fin cfg0.N, win0_7.index t = ![min t.val 63, 0] := (by decide +kernel : ∀ t : Fin grid0.N, _)
theorem idx8 : ∀ t : Fin cfg0.N, win0_8.index t = ![min t.val 63, 0] := (by decide +kernel : ∀ t : Fin grid0.N, _)
theorem idx9 : ∀ t : Fin cfg0.N, win0_9.index t = ![min t.val 63, 1] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx0 : ∀ t : Fin cfg0.N, win0_0.index t = ![0] := (by decide +kernel : ∀ t : Fin grid0.N, _)
/-- The block of tokens a point writes. -/
theorem idx15 : ∀ t : Fin cfg0.N, win0_15.index t = ![t.val - 1, 0] := (by decide +kernel : ∀ t : Fin grid0.N, _)
/-- No write-back happens at the first point. -/
theorem flush_pos : ∀ t : Fin cfg0.N, (cfg0.win 15).flush t = true → 0 < t.val := (by decide +kernel : ∀ t : Fin grid0.N, _)
/-- The grid's one coordinate is the point's number. -/
theorem coord : ∀ t : Fin cfg0.N, (grid0.coords t 0).val = t.val := (by decide +kernel : ∀ t : Fin grid0.N, _)

theorem sk_at (c : Dev nD) (t : Fin cfg0.N) (h : Fin 16) :
    (iblk m c 0 t : Vec Ideal S16 .f32) (ix1 h) = (m ((c.tc : Thread nD τ).loc main_arg0) : Vec Ideal S16 .f32) (ix1 h) := by
  blk_simp [iblk, V_main_arg0]
  refine congrArg _ ?_
  blk_ext [idx0 t]

theorem x_at (c : Dev nD) (t : Fin cfg0.N) (h2 : t.val < 64) (r : Fin 1024) (k : Fin 1024) (R : Fin 65536) (hR : R.val = 1024 * t.val + r.val) :
    (iblk m c 1 t : Vec Ideal S1024x1024 .f32) (ix2 r k) = (m ((c.tc : Thread nD τ).loc main_arg1) : Vec Ideal S65536x1024 .f32) (ix2 R k) := by
  blk_simp [iblk, V_main_arg1]
  refine congrArg _ ?_
  blk_ext [idx1 t]

theorem qt_at (c : Dev nD) (t : Fin cfg0.N) (h2 : t.val < 64) (R J : Fin 1024) (T : Fin 65536) (hT : T.val = 1024 * t.val + J.val) (h : Fin 16) (d : Fin 64) (hR : R.val = 64 * h.val + d.val) :
    (iblk m c 2 t : Vec Ideal S1024x1024 .bf16) (ix2 R J) = (qs (m ((c.tc : Thread nD τ).loc main_arg2)) T h d : EReal) := by
  blk_simp [iblk]
  entry_read
  rw [show (win0_2.blk t).view.emb (ix2 R J) = ix2 R T by blk_ext [idx2 t]]
  pointwise
  exact congrArg (fun a => Ideal.div (a * Ideal.ofBits FTy.f32 1040187392#32) (Ideal.log (Ideal.ofBits FTy.f32 1073741824#32)))
    (congrArg₂ (fun a b => (m ((c.tc : Thread nD τ).loc main_arg2) : Vec Ideal S8x8192x16x64 .f32) (ix4 ⟨T.val / 8192, by omega⟩ ⟨T.val % 8192, by omega⟩ a b))
    (Fin.ext (by simp only; omega)) (Fin.ext (by simp only; omega)))

theorem k_at (c : Dev nD) (t : Fin cfg0.N) (h2 : t.val < 64) (J : Fin 1024) (C : Fin 256) (T : Fin 65536) (hT : T.val = 1024 * t.val + J.val) (h : Fin 4) (d : Fin 64) (hC : C.val = 64 * h.val + d.val) :
    (iblk m c 3 t : Vec Ideal S1024x256 .bf16) (ix2 J C) = at4 (m ((c.tc : Thread nD τ).loc main_arg3) : Vec Ideal S8x8192x4x64 .f32) T h d := by
  blk_simp [iblk]
  entry_read
  rw [show (win0_3.blk t).view.emb (ix2 J C) = ix2 T C by blk_ext [idx3 t]]
  pointwise
  exact congrArg₂ (fun a b => (m ((c.tc : Thread nD τ).loc main_arg3) : Vec Ideal S8x8192x4x64 .f32) (ix4 ⟨T.val / 8192, by omega⟩ ⟨T.val % 8192, by omega⟩ a b))
    (Fin.ext (by simp only; omega)) (Fin.ext (by simp only; omega))

theorem kh_at (c : Dev nD) (t : Fin cfg0.N) (h2 : t.val < 64) (J : Fin 128) (C : Fin 256) (T : Fin 65536) (hT : T.val = 128 * (8 * t.val - 1) + J.val) (h : Fin 4) (d : Fin 64) (hC : C.val = 64 * h.val + d.val) :
    (iblk m c 4 t : Vec Ideal S128x256 .bf16) (ix2 J C) = at4 (m ((c.tc : Thread nD τ).loc main_arg3) : Vec Ideal S8x8192x4x64 .f32) T h d := by
  blk_simp [iblk]
  entry_read
  rw [show (win0_4.blk t).view.emb (ix2 J C) = ix2 T C by blk_ext [idx4 t]]
  pointwise
  exact congrArg₂ (fun a b => (m ((c.tc : Thread nD τ).loc main_arg3) : Vec Ideal S8x8192x4x64 .f32) (ix4 ⟨T.val / 8192, by omega⟩ ⟨T.val % 8192, by omega⟩ a b))
    (Fin.ext (by simp only; omega)) (Fin.ext (by simp only; omega))

theorem vt_at (c : Dev nD) (t : Fin cfg0.N) (h2 : t.val < 64) (J : Fin 1024) (C : Fin 256) (T : Fin 65536) (hT : T.val = 1024 * t.val + J.val) (h : Fin 4) (d : Fin 64) (hC : C.val = 64 * h.val + d.val) :
    (iblk m c 5 t : Vec Ideal S256x1024 .bf16) (ix2 C J) = at4 (m ((c.tc : Thread nD τ).loc main_arg4) : Vec Ideal S8x8192x4x64 .f32) T h d := by
  blk_simp [iblk]
  entry_read
  rw [show (win0_5.blk t).view.emb (ix2 C J) = ix2 C T by blk_ext [idx5 t]]
  pointwise
  exact congrArg₂ (fun a b => (m ((c.tc : Thread nD τ).loc main_arg4) : Vec Ideal S8x8192x4x64 .f32) (ix4 ⟨T.val / 8192, by omega⟩ ⟨T.val % 8192, by omega⟩ a b))
    (Fin.ext (by simp only; omega)) (Fin.ext (by simp only; omega))

theorem vh_at (c : Dev nD) (t : Fin cfg0.N) (h2 : t.val < 64) (J : Fin 128) (C : Fin 256) (T : Fin 65536) (hT : T.val = 128 * (8 * t.val - 1) + J.val) (h : Fin 4) (d : Fin 64) (hC : C.val = 64 * h.val + d.val) :
    (iblk m c 6 t : Vec Ideal S256x128 .bf16) (ix2 C J) = at4 (m ((c.tc : Thread nD τ).loc main_arg4) : Vec Ideal S8x8192x4x64 .f32) T h d := by
  blk_simp [iblk]
  entry_read
  rw [show (win0_6.blk t).view.emb (ix2 C J) = ix2 C T by blk_ext [idx6 t]]
  pointwise
  exact congrArg₂ (fun a b => (m ((c.tc : Thread nD τ).loc main_arg4) : Vec Ideal S8x8192x4x64 .f32) (ix4 ⟨T.val / 8192, by omega⟩ ⟨T.val % 8192, by omega⟩ a b))
    (Fin.ext (by simp only; omega)) (Fin.ext (by simp only; omega))

theorem yh_at (c : Dev nD) (t : Fin cfg0.N) (h2 : t.val < 64) (r : Fin 1024) (k : Fin 1024) (R : Fin 65536) (hR : R.val = 1024 * t.val + r.val) :
    (iblk m c 7 t : Vec Ideal S1024x1024 .bf16) (ix2 r k) = (m ((c.tc : Thread nD τ).loc main_arg5) : Vec Ideal S65536x1024 .f32) (ix2 R k) := by
  blk_simp [iblk]
  entry_read
  rw [show (win0_7.blk t).view.emb (ix2 r k) = ix2 R k by blk_ext [idx7 t]]
  pointwise

theorem ga_at (c : Dev nD) (t : Fin cfg0.N) (h2 : t.val < 64) (r : Fin 1024) (k : Fin 1024) (R : Fin 65536) (hR : R.val = 1024 * t.val + r.val) :
    (iblk m c 8 t : Vec Ideal S1024x1024 .bf16) (ix2 r k) = (m ((c.tc : Thread nD τ).loc main_arg6) : Vec Ideal S65536x2048 .f32) (ix2 R ⟨k.val, by omega⟩) := by
  blk_simp [iblk]
  entry_read
  rw [show (win0_8.blk t).view.emb (ix2 r k) = ix2 R ⟨k.val, by omega⟩ by blk_ext [idx8 t]]
  pointwise

theorem gh_at (c : Dev nD) (t : Fin cfg0.N) (h2 : t.val < 64) (r : Fin 1024) (k : Fin 1024) (R : Fin 65536) (hR : R.val = 1024 * t.val + r.val) :
    (iblk m c 9 t : Vec Ideal S1024x1024 .bf16) (ix2 r k) = (m ((c.tc : Thread nD τ).loc main_arg6) : Vec Ideal S65536x2048 .f32) (ix2 R ⟨1024 + k.val, by omega⟩) := by
  blk_simp [iblk]
  entry_read
  rw [show (win0_9.blk t).view.emb (ix2 r k) = ix2 R ⟨1024 + k.val, by omega⟩ by blk_ext [idx9 t]]
  pointwise

theorem wpa_at (c : Dev nD) (t : Fin cfg0.N) (i j : Fin 1024) :
    (iblk m c 10 t : Vec Ideal S1024x1024 .bf16) (ix2 i j) = (m ((c.tc : Thread nD τ).loc main_arg7) : Vec Ideal S1024x1024 .f32) (ix2 i j) := by
  blk_simp [iblk]
  entry_read
  rw [show (win0_10.blk t).view.emb (ix2 i j) = ix2 i j by blk_ext [idx10 t]]
  pointwise
theorem wph_at (c : Dev nD) (t : Fin cfg0.N) (i j : Fin 1024) :
    (iblk m c 11 t : Vec Ideal S1024x1024 .bf16) (ix2 i j) = (m ((c.tc : Thread nD τ).loc main_arg8) : Vec Ideal S1024x1024 .f32) (ix2 i j) := by
  blk_simp [iblk]
  entry_read
  rw [show (win0_11.blk t).view.emb (ix2 i j) = ix2 i j by blk_ext [idx11 t]]
  pointwise
theorem wo_at (c : Dev nD) (t : Fin cfg0.N) (i j : Fin 1024) :
    (iblk m c 12 t : Vec Ideal S1024x1024 .bf16) (ix2 i j) = (m ((c.tc : Thread nD τ).loc main_arg9) : Vec Ideal S1024x1024 .f32) (ix2 i j) := by
  blk_simp [iblk]
  entry_read
  rw [show (win0_12.blk t).view.emb (ix2 i j) = ix2 i j by blk_ext [idx12 t]]
  pointwise
theorem g_at (c : Dev nD) (t : Fin cfg0.N) (d : Fin 1024) :
    (iblk m c 13 t : Vec Ideal S1x1024 .f32) (ix2 0 d) = (m ((c.tc : Thread nD τ).loc main_arg10) : Vec Ideal S1x1024 .f32) (ix2 0 d) := by
  blk_simp [iblk]
  rw [show (win0_13.blk t).view.emb (ix2 0 d) = ix2 0 d by blk_ext [idx13 t]]
  exact congrFun (V_main_arg10 m c) _
theorem b_at (c : Dev nD) (t : Fin cfg0.N) (d : Fin 1024) :
    (iblk m c 14 t : Vec Ideal S1x1024 .f32) (ix2 0 d) = (m ((c.tc : Thread nD τ).loc main_arg11) : Vec Ideal S1x1024 .f32) (ix2 0 d) := by
  blk_simp [iblk]
  rw [show (win0_14.blk t).view.emb (ix2 0 d) = ix2 0 d by blk_ext [idx14 t]]
  exact congrFun (V_main_arg11 m c) _
/-- The first block's bias, by whether the tile is the first of its sequence. -/
theorem bias (t : Fin cfg0.N) : (k0_pay6 (F := Ideal) (BitVec.ofNat 32 (grid0.coords t 0).val) : EReal) = if t.val % 8 = 0 then ⊥ else 0 := by
  have key : ∀ n : Fin 65, Scalar.cmpi CmpIPredicate.eq (Scalar.select (Scalar.andi
        (Scalar.xori (Scalar.cmpi CmpIPredicate.slt (Scalar.remsi (BitVec.ofNat 32 n.val) (Scalar.select (Scalar.cmpi CmpIPredicate.eq 8#32 0#32) 1#32 8#32)) 0#32)
          (Scalar.cmpi CmpIPredicate.slt (Scalar.select (Scalar.cmpi CmpIPredicate.eq 8#32 0#32) 1#32 8#32) 0#32))
        (Scalar.cmpi CmpIPredicate.ne (Scalar.remsi (BitVec.ofNat 32 n.val) (Scalar.select (Scalar.cmpi CmpIPredicate.eq 8#32 0#32) 1#32 8#32)) 0#32))
      (Scalar.addi (Scalar.remsi (BitVec.ofNat 32 n.val) (Scalar.select (Scalar.cmpi CmpIPredicate.eq 8#32 0#32) 1#32 8#32)) (Scalar.select (Scalar.cmpi CmpIPredicate.eq 8#32 0#32) 1#32 8#32))
      (Scalar.remsi (BitVec.ofNat 32 n.val) (Scalar.select (Scalar.cmpi CmpIPredicate.eq 8#32 0#32) 1#32 8#32))) 0#32 = if n.val % 8 = 0 then 1#1 else 0#1 := by
    decide +kernel
  rw [coord]
  refine (congrArg (fun w => Scalar.select w (Named.named (F := Ideal) (φ := .f32) κ "mask" 0xF149F2CA#32) (Ideal.ofBits FTy.f32 0#32))
    (key ⟨t.val, lt_of_lt_of_eq t.isLt Gen.N_0⟩)).trans ?_
  simp only
  split_ifs
  · rfl
  · exact Ideal.ofBits_zero .f32

theorem keyP_at (c : Dev nD) (t : Fin cfg0.N) (h2 : t.val < 64) (J : Fin 1024) (i : Fin 128) (C : Fin 256) (T : Fin 65536) (hT : T.val = 1024 * t.val + J.val)
    (h : Fin 4) (d : Fin 64) (hC : C.val = 64 * h.val + d.val) : keyP (iblk m c 3 t) (iblk m c 4 t) J i C
      = at4 (m ((c.tc : Thread nD τ).loc main_arg3) : Vec Ideal S8x8192x4x64 .f32) ⟨128 * (T.val / 128 - 1) + i.val, by omega⟩ h d := by
  unfold keyP
  split_ifs with hJ
  · exact kh_at m c t h2 _ _ _ (by simp only; omega) h d hC
  · exact k_at m c t h2 _ _ _ (by simp only; omega) h d hC
theorem valP_at (c : Dev nD) (t : Fin cfg0.N) (h2 : t.val < 64) (J : Fin 1024) (i : Fin 128) (C : Fin 256) (T : Fin 65536) (hT : T.val = 1024 * t.val + J.val)
    (h : Fin 4) (d : Fin 64) (hC : C.val = 64 * h.val + d.val) : valP (iblk m c 5 t) (iblk m c 6 t) J i C
      = at4 (m ((c.tc : Thread nD τ).loc main_arg4) : Vec Ideal S8x8192x4x64 .f32) ⟨128 * (T.val / 128 - 1) + i.val, by omega⟩ h d := by
  unfold valP
  split_ifs with hJ
  · exact vh_at m c t h2 _ _ _ (by simp only; omega) h d hC
  · exact vt_at m c t h2 _ _ _ (by simp only; omega) h d hC

/-- What it is in terms of the call's arguments. -/
theorem yat_at (c : Dev nD) (t : Fin cfg0.N) (h2 : t.val < 64) (R J : Fin 1024) (T : Fin 65536) (hT : T.val = 1024 * t.val + J.val) :
    yatT m c t (ix2 R J) = (attn (m ((c.tc : Thread nD τ).loc main_arg0)) (m ((c.tc : Thread nD τ).loc main_arg2)) (m ((c.tc : Thread nD τ).loc main_arg3))
      (m ((c.tc : Thread nD τ).loc main_arg4)) T ⟨R.val / 64, by omega⟩ ⟨R.val % 64, by omega⟩ : EReal) := by
  show yat _ _ _ _ _ _ _ R J = _
  unfold yat attn
  rw [show J.val % 128 = T.val % 128 by omega]
  refine congr (congr (congr (congrArg (cell _) (funext fun i => ?_)) (congrArg (· * _) (sk_at m c t _))) (funext fun i => ?_)) (funext fun i => ?_)
  · unfold scoreS scoreA
    rw [bias t, show J.val % 128 = T.val % 128 by omega]
    refine if_congr Iff.rfl (congr (congrArg _ (Finset.sum_congr rfl fun d _ => ?_)) ?_) (Finset.sum_congr rfl fun d _ => ?_)
    · exact congr (congrArg _ (keyP_at m c t h2 J i _ T hT _ d (by simp only; omega))) (qt_at m c t h2 _ J T hT _ d (by simp only))
    · by_cases h8 : T.val % 8192 < 128
      · rw [if_pos h8, if_pos (by omega), if_pos (by omega)]
      · rw [if_neg h8]
        split_ifs <;> first | rfl | omega
    · exact congr (congrArg _ (k_at m c t h2 _ _ _ (by simp only; omega) _ d (by simp only; omega))) (qt_at m c t h2 _ J T hT _ d (by simp only))
  · exact valP_at m c t h2 J i _ T hT _ _ (by simp only; omega)
  · exact vt_at m c t h2 _ _ _ (by simp only; omega) _ _ (by simp only; omega)

section
variable (sk : Vec Ideal S16 .f32) (x : Vec Ideal S65536x1024 .f32) (q : Vec Ideal S8x8192x16x64 .f32) (k v : Vec Ideal S8x8192x4x64 .f32)
  (yh : Vec Ideal S65536x1024 .f32) (ga : Vec Ideal S65536x2048 .f32) (wpa wph wo : Vec Ideal S1024x1024 .f32) (g b : Vec Ideal S1x1024 .f32)
/-- Column `j` of a token's gated merge, from an attention's outputs. -/
def mergeA (ya : Fin 16 → Fin 64 → EReal) (T : Fin 65536) (j : Fin 1024) : EReal :=
  gated (fun R => ya ⟨R.val / 64, by omega⟩ ⟨R.val % 64, by omega⟩) (fun k => yh (ix2 T k)) (fun k => wpa (ix2 k j)) (fun k => wph (ix2 k j))
    (ga (ix2 T ⟨j.val, by omega⟩)) (ga (ix2 T ⟨1024 + j.val, by omega⟩))
/-- The residual sum of one token at one feature. -/
def sumA (ya : Fin 16 → Fin 64 → EReal) (T : Fin 65536) (d : Fin 1024) : EReal :=
  Ideal.ofBits .f32 0x3F9837F0#32 * x (ix2 T d) + ∑ j : Fin 1024, mergeA yh ga wpa wph ya T j * wo (ix2 j d)
/-- What the call computes, from its own arguments. -/
def result : Vec Ideal S65536x1024 .f32 := fun y =>
  lnRow (sumA x yh ga wpa wph wo (attn sk q k v (y 0)) (y 0)) (fun d => g (ix2 0 d)) (fun d => b (ix2 0 d)) (y 1)
end

theorem resid_at (c : Dev nD) (t : Fin cfg0.N) (h2 : t.val < 64) (r : Fin 1024) (d : Fin 1024) (T : Fin 65536) (hT : T.val = 1024 * t.val + r.val) :
    resid (iblk m c 1 t) (yatT m c t) (iblk m c 7 t) (iblk m c 8 t) (iblk m c 9 t) (iblk m c 10 t) (iblk m c 11 t) (iblk m c 12 t) r d
      = sumA (m ((c.tc : Thread nD τ).loc main_arg1)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
        (attn (m ((c.tc : Thread nD τ).loc main_arg0)) (m ((c.tc : Thread nD τ).loc main_arg2)) (m ((c.tc : Thread nD τ).loc main_arg3)) (m ((c.tc : Thread nD τ).loc main_arg4)) T) T d := by
  unfold resid sumA
  refine congr (congrArg _ (congrArg _ (x_at m c t h2 r d T hT))) (Finset.sum_congr rfl fun j _ => congr (congrArg _ ?_) (wo_at m c t j d))
  unfold merged mergeA
  exact congr (congr (congr (congr (congr (congrArg gated (funext fun R => yat_at m c t h2 R r T hT)) (funext fun k => yh_at m c t h2 r k T hT))
    (funext fun k => wpa_at m c t k j)) (funext fun k => wph_at m c t k j)) (ga_at m c t h2 r j T hT)) (gh_at m c t h2 r j T hT)
end Cert.KernelIdeal.Attn

end
-- ==== Proof.AttnBlockA.lean ====
module
public import proofs.«01_k».proof.Proof.AttnPay
public import proofs.«01_k».proof.Proof.AttnMix
@[expose] public section
set_option maxRecDepth 16384
noncomputable section

/-! The attention call: what the first grid point leaves in its buffers. -/

namespace Cert.KernelIdeal.Attn
open Idealize.ShloMosaic Idealize.ShloMosaic.TcCoe Idealize.SL.Sem
open Cert.KernelIdeal Cert.KernelIdeal.Gen Cert.Rows

variable (m : (ℓ : Loc nD τ sig) → Buf (Elt Ideal) ℓ)

/-- Where the later stores cover an index, the earlier ones do not show. -/
theorem canon_later {s : Shape} {e : EltTy} : ∀ (L L' : List (View.Piece (Elt Ideal) s e)) (y : s.Idx), (∃ p ∈ L, y ∈ p.1.set) → View.canon (L ++ L') y = View.canon L y
  | [], _, _, h => by obtain ⟨_, h, _⟩ := h; exact absurd h List.not_mem_nil
  | p :: L, L', y, h => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨p', hp', hy⟩ := h
      refine (View.canon_cons_of_not_mem p (L ++ L') hm).trans (Eq.trans ?_ (View.canon_cons_of_not_mem p L hm).symm)
      refine canon_later L L' y ⟨p', ?_, hy⟩
      rcases List.mem_cons.mp hp' with e | e
      · exact absurd (e ▸ hy) hm
      · exact e

set_option maxHeartbeats 40000000
theorem sout_A (c : Dev nD) (t : Fin cfg0.N) (h0 : t.val % 65 = 0) (h1 : ¬t.val % 65 = 64) (h2 : t.val < 64) (r : Fin 1024) (d : Fin 1024) :
    (outsAt0 m c t.val t.isLt).2 (ix2 r d) = resid (iblk m c 1 t) (yatT m c t) (iblk m c 7 t) (iblk m c 8 t) (iblk m c 9 t) (iblk m c 10 t) (iblk m c 11 t) (iblk m c 12 t) r d := by
  rw [outsAt0_A m c t h0 h1 h2]
  frame_out
  rw [readCov_whole _ _ _ (yatT m c t) ?_]
  · obtain ⟨y, hy⟩ : ∃ y : S1024x1024.Idx, y = ix2 r d := ⟨_, rfl⟩
    rw [← hy, show r = y 0 by rw [hy]; rfl, show d = y 1 by rw [hy]; rfl]
    refine (canon_later [_, _, _, _] [_] y (View.cover_of_tiled_head _ _ _ (by rfl) _)).trans ?_
    canon_tiles x h
    all_goals
      first
      | exact last_at _ _ _ _ _ _ _ _ _ _ _ _ _ x h0 h1
      | exact last_at _ _ _ _ _ _ _ _ _ _ _ _ _ x h0 (h1.trans (Nat.zero_add _).symm)
  · intro y
    canon_tiles x h
    all_goals
      unfold yatT
      (try rw [(hs0_0 t).read_unread (iblk m c 0 t)])
      (try rw [(hs0_2 t).read_unread (iblk m c 2 t)])
      (try rw [(hs0_3 t).read_unread (iblk m c 3 t)])
      (try rw [(hs0_4 t).read_unread (iblk m c 4 t)])
      (try rw [(hs0_5 t).read_unread (iblk m c 5 t)])
      (try rw [(hs0_6 t).read_unread (iblk m c 6 t)])
      open_payloads
      first | (replace h0 : (y 0).val = 0 + (x 0).val := by omega) | skip
      first | (replace h1 : (y 1).val = 0 + (x 1).val := by omega) | skip
      first
      | (have hz : (y 1).val = 0 + (x 1).val := by omega)
        refine storedHalo (iblk m c 0 t) (iblk m c 2 t) (iblk m c 3 t) (iblk m c 4 t) (iblk m c 5 t) (iblk m c 6 t) (k0_pay6 (F := Ideal) (BitVec.ofNat 32 (grid0.coords t 0).val))
          y x _ _ _ _ _ h0 h1 _ _ _ _ _ _ _ _ _ _ _ _ _ _ _ ?_ ?_ ?_ ?_ ?_ ?_ ⟨_, rfl, ?_⟩ ?_ ?_ ?_ ?_ ?_ ?_ ?_
      | refine stored (iblk m c 0 t) (iblk m c 2 t) (iblk m c 3 t) (iblk m c 4 t) (iblk m c 5 t) (iblk m c 6 t) (k0_pay6 (F := Ideal) (BitVec.ofNat 32 (grid0.coords t 0).val))
          y x _ _ _ _ _ h0 h1 _ _ _ _ _ _ _ _ _ _ _ _ _ _ _ ?_ ?_ ?_ ?_ ?_ ?_ ⟨_, rfl, ?_⟩ ?_ ?_ ?_ ?_ ?_ ?_ ?_ ?_ ?_
      all_goals first
      | decide
      | refine ⟨_, .inl ⟨rfl, rfl⟩, ?_⟩
      | refine ⟨_, .inr ⟨rfl, rfl⟩, ?_⟩
      | skip
      all_goals first | with_reducible rfl | with_reducible exact ld_all _ _ | skip
      all_goals first
      | rw [four_0]; rfl
      | rw [four_1]; rfl
      | rw [four_2]; rfl
      | rw [four_3]; rfl
      | rfl
end Cert.KernelIdeal.Attn
end
-- ==== Proof.AttnBlockB.lean ====
module
public import proofs.«01_k».proof.Proof.AttnPay
public import proofs.«01_k».proof.Proof.AttnMix
@[expose] public section
set_option maxRecDepth 16384
noncomputable section

/-! The attention call: what one grid point after the first leaves in its buffers. -/

namespace Cert.KernelIdeal.Attn
open Idealize.ShloMosaic Idealize.ShloMosaic.TcCoe Idealize.SL.Sem
open Cert.KernelIdeal Cert.KernelIdeal.Gen Cert.Rows

variable (m : (ℓ : Loc nD τ sig) → Buf (Elt Ideal) ℓ)

set_option maxHeartbeats 40000000
theorem sout_B (c : Dev nD) (t : Fin cfg0.N) (h0 : ¬t.val % 65 = 0) (h1 : ¬t.val % 65 = 64) (h2 : t.val < 64) (r : Fin 1024) (d : Fin 1024) :
    (outsAt0 m c t.val t.isLt).2 (ix2 r d) = resid (iblk m c 1 t) (yatT m c t) (iblk m c 7 t) (iblk m c 8 t) (iblk m c 9 t) (iblk m c 10 t) (iblk m c 11 t) (iblk m c 12 t) r d := by
  rw [outsAt0_B m c t h0 h1 h2]
  frame_out
  rw [readCov_whole _ _ _ (yatT m c t) ?_]
  · obtain ⟨y, hy⟩ : ∃ y : S1024x1024.Idx, y = ix2 r d := ⟨_, rfl⟩
    rw [← hy, show r = y 0 by rw [hy]; rfl, show d = y 1 by rw [hy]; rfl]
    canon_tiles x h
    all_goals
      first
      | exact last_at _ _ _ _ _ _ _ _ _ _ _ _ _ x h0 h1
      | exact last_at _ _ _ _ _ _ _ _ _ _ _ _ _ x h0 (h1.trans (Nat.zero_add _).symm)
  · intro y
    canon_tiles x h
    all_goals
      unfold yatT
      (try rw [(hs0_0 t).read_unread (iblk m c 0 t)])
      (try rw [(hs0_2 t).read_unread (iblk m c 2 t)])
      (try rw [(hs0_3 t).read_unread (iblk m c 3 t)])
      (try rw [(hs0_4 t).read_unread (iblk m c 4 t)])
      (try rw [(hs0_5 t).read_unread (iblk m c 5 t)])
      (try rw [(hs0_6 t).read_unread (iblk m c 6 t)])
      open_payloads
      first | (replace h0 : (y 0).val = 0 + (x 0).val := by omega) | skip
      first | (replace h1 : (y 1).val = 0 + (x 1).val := by omega) | skip
      first
      | (have hz : (y 1).val = 0 + (x 1).val := by omega)
        refine storedHalo (iblk m c 0 t) (iblk m c 2 t) (iblk m c 3 t) (iblk m c 4 t) (iblk m c 5 t) (iblk m c 6 t) (k0_pay6 (F := Ideal) (BitVec.ofNat 32 (grid0.coords t 0).val))
          y x _ _ _ _ _ h0 h1 _ _ _ _ _ _ _ _ _ _ _ _ _ _ _ ?_ ?_ ?_ ?_ ?_ ?_ ⟨_, rfl, ?_⟩ ?_ ?_ ?_ ?_ ?_ ?_ ?_
      | refine stored (iblk m c 0 t) (iblk m c 2 t) (iblk m c 3 t) (iblk m c 4 t) (iblk m c 5 t) (iblk m c 6 t) (k0_pay6 (F := Ideal) (BitVec.ofNat 32 (grid0.coords t 0).val))
          y x _ _ _ _ _ h0 h1 _ _ _ _ _ _ _ _ _ _ _ _ _ _ _ ?_ ?_ ?_ ?_ ?_ ?_ ⟨_, rfl, ?_⟩ ?_ ?_ ?_ ?_ ?_ ?_ ?_ ?_ ?_
      all_goals first
      | decide
      | refine ⟨_, .inl ⟨rfl, rfl⟩, ?_⟩
      | refine ⟨_, .inr ⟨rfl, rfl⟩, ?_⟩
      | skip
      all_goals first | with_reducible rfl | with_reducible exact ld_all _ _ | skip
      all_goals first
      | rw [four_0]; rfl
      | rw [four_1]; rfl
      | rw [four_2]; rfl
      | rw [four_3]; rfl
      | rfl
end Cert.KernelIdeal.Attn
end
-- ==== Proof.AttnRes.lean ====
module
public import proofs.«01_k».proof.Proof.AttnArray
public import proofs.«01_k».proof.Proof.AttnBlockA
public import proofs.«01_k».proof.Proof.AttnBlockB
@[expose] public section
set_option maxRecDepth 16384
noncomputable section

/-! The attention call: what its output array holds after the run. -/

namespace Cert.KernelIdeal.Attn
open Idealize.ShloMosaic Idealize.ShloMosaic.TcCoe Idealize.SL.Sem
open Cert.KernelIdeal Cert.KernelIdeal.Gen Cert.Rows
variable (m : (ℓ : Loc nD τ sig) → Buf (Elt Ideal) ℓ)

/-- Every tile's residual sums, the first tile's included. -/
theorem sout (c : Dev nD) (t : Fin cfg0.N) (h2 : t.val < 64) (r d : Fin 1024) :
    ((outsAt0 m c t.val t.isLt).2 (ix2 r d) : EReal) = resid (iblk m c 1 t) (yatT m c t) (iblk m c 7 t) (iblk m c 8 t) (iblk m c 9 t) (iblk m c 10 t) (iblk m c 11 t) (iblk m c 12 t) r d := by
  by_cases h0 : t.val % 65 = 0
  · exact sout_A m c t h0 (by omega) h2 r d
  · exact sout_B m c t h0 (by omega) h2 r d

/-- The output array after the run. -/
theorem array (c : Dev nD) : (dats m 0 c).arrAt 15 cfg0.N
    = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 15 _ (by decide +kernel) fun t hf y => ?_
  have h := flush_pos t hf
  have ht : t.val < 65 := lt_of_lt_of_eq t.isLt Gen.N_0
  blk_simp
  rw [after0_15]
  have hb : t.val - 1 < cfg0.N := lt_of_le_of_lt (Nat.sub_le _ _) t.isLt
  have h2 : t.val - 1 < 64 := by omega
  refine (out m c t h y).trans ?_
  have e0 : (((win0_15.blk t).view.emb y) 0 : ℕ) = 1024 * (t.val - 1) + (y 0 : ℕ) := by blk_simp [idx15 t]; simp; omega
  have e1 : ((win0_15.blk t).view.emb y) 1 = y 1 := Fin.ext (by blk_simp [idx15 t])
  unfold norm result
  rw [e1]
  simp only [g_at, b_at]
  rw [show (fun k => (outsAt0 m c (t.val - 1) (Nat.lt_of_le_of_lt (Nat.sub_le _ _) t.isLt)).2 (ix2 (y 0) k)) = _ from
    funext fun k => (sout m c ⟨t.val - 1, hb⟩ h2 (y 0) k).trans (resid_at m c ⟨t.val - 1, hb⟩ h2 (y 0) k _ e0)]

end Cert.KernelIdeal.Attn

end
-- ==== Proof.AttnSoft.lean ====
module
public import proofs.«01_k».proof.Proof.AttnPay
@[expose] public section
set_option maxRecDepth 16384
noncomputable section

/-! The softmax over a band of two blocks of keys, and over one block of which each key is one of the two. -/

namespace Cert.KernelIdeal.Attn
open Idealize.ShloMosaic Idealize.ShloMosaic.TcCoe

/-- A key of the band's first block. -/
abbrev lo (i : Fin 128) : Fin 256 := ⟨i.val, by omega⟩
/-- A key of its second block. -/
abbrev hi (i : Fin 128) : Fin 256 := ⟨128 + i.val, by omega⟩

/-- The largest of a row of scores and a sink, over the band. -/
def bandTop (s : Fin 256 → EReal) (sk : EReal) : EReal := max (Finset.univ.sup s) sk
/-- The sum of the band's weights and the sink's. -/
def bandDen (s : Fin 256 → EReal) (sk : EReal) : EReal := (∑ j : Fin 256, Ideal.exp (s j - bandTop s sk)) + Ideal.exp (sk - bandTop s sk)
/-- The band's values, weighted by the softmax of its scores and the sink. -/
def bandCell (s : Fin 256 → EReal) (sk : EReal) (v : Fin 256 → EReal) : EReal :=
  ∑ j : Fin 256, v j * Ideal.div (Ideal.exp (s j - bandTop s sk)) (bandDen s sk)

theorem sum_band (f : Fin 256 → EReal) : ∑ j, f j = ∑ i : Fin 128, f (lo i) + ∑ i : Fin 128, f (hi i) := Fin.sum_univ_add (a := 128) (b := 128) f

theorem coe_sum {n : ℕ} (f : Fin n → ℝ) : ∑ i, ((f i : ℝ) : EReal) = ((∑ i, f i : ℝ) : EReal) :=
  (map_sum (⟨⟨Real.toEReal, rfl⟩, EReal.coe_add⟩ : ℝ →+ EReal) _ _).symm

/-- The weight of a score that is not infinite, as a real number. -/
def wt (x : EReal) (μ : ℝ) : ℝ := match x with
  | ⊥ => 0
  | ⊤ => 0
  | (r : ℝ) => Real.exp (r - μ)

theorem exp_eq (x : EReal) (μ : ℝ) (hx : x ≠ ⊤) : Ideal.exp (x - (μ : EReal)) = ((wt x μ : ℝ) : EReal) := by
  induction x with
  | bot => rw [EReal.bot_sub]; exact rfl
  | top => exact absurd rfl hx
  | coe r => rw [← EReal.coe_sub, Ideal.exp_coe]; rfl

theorem log2_pos : (0 : ℝ) < (Real.log 2)⁻¹ := inv_pos.mpr (Real.log_pos (by norm_num))

theorem exp2_eq (x : EReal) (μ : ℝ) (hx : x ≠ ⊤) :
    Ideal.exp2 (x * (((Real.log 2)⁻¹ : ℝ) : EReal) - ((μ : EReal) * (((Real.log 2)⁻¹ : ℝ) : EReal))) = ((wt x μ : ℝ) : EReal) := by
  induction x with
  | bot => rw [EReal.bot_mul_coe_of_pos log2_pos, ← EReal.coe_mul, EReal.bot_sub]; exact rfl
  | top => exact absurd rfl hx
  | coe r =>
    rw [← EReal.coe_mul, ← EReal.coe_mul, ← EReal.coe_sub, Ideal.exp2_coe]
    refine congrArg Real.toEReal ?_
    show (2 : ℝ) ^ (r * (Real.log 2)⁻¹ - μ * (Real.log 2)⁻¹) = Real.exp (r - μ)
    rw [Real.rpow_def_of_pos (by norm_num)]
    have h : Real.log 2 ≠ 0 := (Real.log_pos (by norm_num)).ne'
    congr 1
    field_simp

theorem wt_nonneg (x : EReal) (μ : ℝ) : 0 ≤ wt x μ := by
  induction x with
  | bot => exact le_refl _
  | top => exact le_refl _
  | coe r => exact (Real.exp_pos _).le

theorem wt_pos (r : ℝ) (μ : ℝ) : 0 < wt (r : EReal) μ := Real.exp_pos _

theorem mul_sum {n : ℕ} (a : EReal) (h0 : 0 ≤ a) (h1 : a ≠ ⊤) (f : Fin n → EReal) : (∑ i, f i) * a = ∑ i, f i * a := by
  induction n with
  | zero => simp
  | succ n ih => rw [Fin.sum_univ_succ, Fin.sum_univ_succ, EReal.right_distrib_of_nonneg_of_ne_top h0 h1, ih]

variable (j : ℕ) (hj : j < 128) (c : Fin 128 → EReal) (s : Fin 256 → EReal) (sk : EReal) (vp vc : Fin 128 → EReal) (v : Fin 256 → EReal)

/-- The key a place of the one block stands for. -/
def pick (i : Fin 128) : EReal := if j < i.val then s (lo i) else s (hi i)

theorem bandTop_eq (hl : ∀ i : Fin 128, ¬ j < i.val → s (lo i) = ⊥) (hh : ∀ i : Fin 128, j < i.val → s (hi i) = ⊥) :
    bandTop s sk = top (pick j s) sk := by
  unfold bandTop top
  refine congrArg (max · sk) (le_antisymm (Finset.sup_le fun b _ => ?_) (Finset.sup_le fun i _ => ?_))
  · by_cases hb : b.val < 128
    · by_cases h : j < b.val
      · have := Finset.le_sup (f := pick j s) (Finset.mem_univ (⟨b.val, hb⟩ : Fin 128))
        unfold pick at this ⊢
        rwa [if_pos h] at this
      · exact (hl ⟨b.val, hb⟩ h).le.trans bot_le
    · by_cases h : j < b.val - 128
      · refine (le_of_eq ?_).trans bot_le
        have := hh ⟨b.val - 128, by omega⟩ h
        rw [← this]
        exact congrArg s (Fin.ext (show b.val = 128 + (b.val - 128) by omega))
      · have := Finset.le_sup (f := pick j s) (Finset.mem_univ (⟨b.val - 128, by omega⟩ : Fin 128))
        unfold pick at this ⊢
        rw [if_neg h] at this
        refine (le_of_eq (congrArg s (Fin.ext (show b.val = 128 + (b.val - 128) by omega)))).trans this
  · unfold pick
    split
    · exact Finset.le_sup (Finset.mem_univ _)
    · exact Finset.le_sup (Finset.mem_univ _)

theorem top_mul (p : Fin 128 → EReal) : top (fun i => p i * (((Real.log 2)⁻¹ : ℝ) : EReal)) (sk * (((Real.log 2)⁻¹ : ℝ) : EReal)) = top p sk * (((Real.log 2)⁻¹ : ℝ) : EReal) := by
  have h0 : (0 : EReal) ≤ (((Real.log 2)⁻¹ : ℝ) : EReal) := EReal.coe_nonneg.mpr log2_pos.le
  have hm : Monotone fun x : EReal => x * (((Real.log 2)⁻¹ : ℝ) : EReal) := fun a b h => mul_le_mul_of_nonneg_right h h0
  unfold top
  have e := Finset.comp_sup_eq_sup_comp_of_is_total (s := Finset.univ) (f := p) _ hm (EReal.bot_mul_coe_of_pos log2_pos)
  rw [hm.map_max, e]
  rfl

include hj in
theorem top_real (p : Fin 128 → EReal) (hp : ∀ i, p i ≠ ⊤) (hq : ∃ r : ℝ, p ⟨j, hj⟩ = (r : EReal)) (hs : sk ≠ ⊤) : ∃ μ : ℝ, top p sk = (μ : EReal) := by
  obtain ⟨r, hr⟩ := hq
  have h1 : (r : EReal) ≤ top p sk := hr ▸ (Finset.le_sup (f := p) (Finset.mem_univ _)).trans (le_max_left _ _)
  have h2 : top p sk < ⊤ := max_lt ((Finset.sup_lt_iff bot_lt_top).mpr fun i _ => lt_top_iff_ne_top.mpr (hp i)) (lt_top_iff_ne_top.mpr hs)
  induction h : top p sk with
  | bot => rw [h] at h1; exact absurd (le_bot_iff.mp h1) (EReal.coe_ne_bot r)
  | top => exact absurd h h2.ne
  | coe μ => exact ⟨μ, rfl⟩

include hj in
/-- The two softmaxes agree: each key of the one block is a key of the band, the others of the band are masked, and the scores
    of the one are those of the other divided by the logarithm of two. -/
theorem cell_eq (hc : ∀ i, c i = pick j s i * (((Real.log 2)⁻¹ : ℝ) : EReal)) (hl : ∀ i : Fin 128, ¬ j < i.val → s (lo i) = ⊥)
    (hh : ∀ i : Fin 128, j < i.val → s (hi i) = ⊥) (hp : ∀ i, pick j s i ≠ ⊤) (hq : ∃ r : ℝ, pick j s ⟨j, hj⟩ = (r : EReal)) (hs : sk ≠ ⊤)
    (hvp : ∀ i : Fin 128, j < i.val → vp i = v (lo i) ∨ s (lo i) = ⊥) (hvc : ∀ i : Fin 128, vc i = v (hi i)) :
    cell j c (sk * (((Real.log 2)⁻¹ : ℝ) : EReal)) vp vc = bandCell s sk v := by
  obtain ⟨μ, hμ⟩ := top_real j hj sk (pick j s) hp hq hs
  have ht := bandTop_eq j s sk hl hh
  rw [hμ] at ht
  obtain rfl : c = fun i => pick j s i * (((Real.log 2)⁻¹ : ℝ) : EReal) := funext hc
  have hlo : ∀ i, s (lo i) ≠ ⊤ := fun i => by
    by_cases h : j < i.val
    · have := hp i; unfold pick at this; rwa [if_pos h] at this
    · rw [hl i h]; exact bot_ne_top
  have hhi : ∀ i, s (hi i) ≠ ⊤ := fun i => by
    by_cases h : j < i.val
    · rw [hh i h]; exact bot_ne_top
    · have := hp i; unfold pick at this; rwa [if_neg h] at this
  obtain ⟨r, hr⟩ := hq
  have hδ : 0 < (∑ i, wt (pick j s i) μ) + wt sk μ :=
    add_pos_of_pos_of_nonneg (Finset.sum_pos' (fun i _ => wt_nonneg _ _) ⟨⟨j, hj⟩, Finset.mem_univ _, hr ▸ wt_pos r μ⟩) (wt_nonneg _ _)
  have hwb : wt ⊥ μ = 0 := rfl
  have hw : ∀ i, wt (s (lo i)) μ + wt (s (hi i)) μ = wt (pick j s i) μ := fun i => by
    unfold pick
    split
    · next h => rw [hh i h, hwb, add_zero]
    · next h => rw [hl i h, hwb, zero_add]
  have hd : bandDen s sk = (((∑ i, wt (pick j s i) μ) + wt sk μ : ℝ) : EReal) := by
    unfold bandDen
    rw [sum_band, ht]
    simp only [exp_eq _ μ (hlo _), exp_eq _ μ (hhi _), exp_eq _ μ hs, coe_sum, ← EReal.coe_add, ← Finset.sum_add_distrib, hw]
  unfold bandCell cell
  rw [top_mul, hμ, sum_band, ht, hd]
  simp only [exp_eq _ μ (hlo _), exp_eq _ μ (hhi _), exp2_eq _ μ (hp _), exp2_eq _ μ hs, coe_sum, ← EReal.coe_add]
  generalize (∑ i, wt (pick j s i) μ) + wt sk μ = δ at hδ
  simp only [Ideal.div_coe hδ.ne', one_mul]
  have hι : (0 : ℝ) < 1 / δ := one_div_pos.mpr hδ
  generalize 1 / δ = ι at hι
  have h0 : (0 : EReal) ≤ (ι : EReal) := EReal.coe_nonneg.mpr hι.le
  rw [EReal.right_distrib_of_nonneg_of_ne_top h0 (EReal.coe_ne_top _), mul_sum _ h0 (EReal.coe_ne_top _), mul_sum _ h0 (EReal.coe_ne_top _)]
  refine congr (congrArg _ (Finset.sum_congr rfl fun i _ => ?_)) (Finset.sum_congr rfl fun i _ => ?_)
  · unfold pick
    split
    · next h =>
      rw [mul_one, mul_assoc]
      rcases hvp i h with e | e
      · rw [e]
      · rw [e, hwb]; simp
    · next h => rw [hl i h, hwb]; simp
  · unfold pick
    split
    · next h => rw [hh i h, hwb]; simp
    · next h => rw [mul_one, mul_assoc, hvc i]
end Cert.KernelIdeal.Attn

end
-- ==== Proof.AttnBand.lean ====
module
public import proofs.«01_k».proof.Proof.AttnSoft
public import proofs.«01_k».proof.Proof.AttnArray
public import proofs.«01_k».proof.Proof.Gen.ReferenceIdeal.Read
public import proofs.«01_k».proof.Pre_finite_scores
@[expose] public section
set_option maxRecDepth 16384
noncomputable section

/-! The attention call: the reference's band of keys and values and its masked scores, at an index. -/

namespace Cert.KernelIdeal.Attn
open Idealize.ShloMosaic Idealize.ShloMosaic.TcCoe Idealize.SL.Sem
open Cert.Rows
open Cert.ReferenceIdeal.Read

section
variable (sk : Vec Ideal S16 .f32) (q : Vec Ideal S8x8192x16x64 .f32) (k v : Vec Ideal S8x8192x4x64 .f32)
/-- Key (or value) `j` of the band of block `n`: a zero where it lies before the sequence. -/
def band (k : Vec Ideal S8x8192x4x64 .f32) (b : Fin 8) (n : Fin 64) (j : Fin 256) (kh : Fin 4) (d : Fin 64) : EReal :=
  if h : 128 * n.val + j.val < 128 then 0 else k (ix4 b ⟨128 * n.val + j.val - 128, by omega⟩ kh d)

theorem v2_at (b : Fin 8) (n : Fin 65) (j : Fin 128) (kh : Fin 4) (d : Fin 64) : (val_main_v2 (F := Ideal) k (ix5 b n j kh d) : EReal)
    = if h : 128 * n.val + j.val < 128 then 0 else k (ix4 b ⟨128 * n.val + j.val - 128, by omega⟩ kh d) := by
  pointwise! [val_main_v2, val_main_v1, val_main_call0_v0, val_main_c]
  have hj := j.isLt
  have hn := n.isLt
  by_cases h : 128 * n.val + j.val < 128
  · rw [dif_neg (by omega), dif_pos h]
    show (((0#32).toInt : ℝ) : EReal) = 0
    norm_num
  · rw [dif_pos (by omega), dif_neg h]
    refine congrArg k (congrArg (fun x => ix4 b x kh d) (Fin.ext ?_))
    show n.val * 128 + j.val - 128 = 128 * n.val + j.val - 128
    omega

theorem v5_at (b : Fin 8) (n : Fin 64) (j : Fin 256) (kh : Fin 4) (d : Fin 64) : (val_main_v5 (F := Ideal) k (ix5 b n j kh d) : EReal) = band k b n j kh d := by
  simp only [val_main_v5, val_main_v3, val_main_v4]
  pointwise! [v2_at, band]
  have hj := j.isLt
  by_cases h : j.val < 128
  · rw [dif_pos h]
  · rw [dif_neg h]
    have e : 128 * (1 + n.val) + (j.val - 128) = 128 * n.val + j.val := by omega
    simp only [e]
theorem v0_at (b : Fin 8) (n : Fin 64) (i : Fin 128) (kh g : Fin 4) (d : Fin 64) : (val_main_v0 (F := Ideal) q (ix6 b n i kh g d) : EReal)
    = q (ix4 b ⟨128 * n.val + i.val, by omega⟩ ⟨4 * kh.val + g.val, by omega⟩ d) := by
  pointwise! [val_main_v0]

/-- The reference's score of a query and a key of the band, masked. -/
def scoreR (b : Fin 8) (n : Fin 64) (kh g : Fin 4) (i : Fin 128) (j : Fin 256) : EReal :=
  if i.val < j.val ∧ j.val ≤ i.val + 128 ∧ 128 ≤ 128 * n.val + j.val then
    (∑ d : Fin 64, band k b n j kh d * q (ix4 b ⟨128 * n.val + i.val, by omega⟩ ⟨4 * kh.val + g.val, by omega⟩ d)) * Ideal.ofBits .f32 0x3E000000#32
  else ⊥

theorem v14_at (b : Fin 8) (n : Fin 64) (kh g : Fin 4) (i : Fin 128) (j : Fin 256) : (val_main_v14 (F := Ideal) q k (ix6 b n kh g i j) : EReal)
    = (∑ d : Fin 64, val_main_v5 (F := Ideal) k (ix5 b n j kh d) * val_main_v0 (F := Ideal) q (ix6 b n i kh g d)) * Ideal.ofBits .f32 0x3E000000#32 := by
  simp only [val_main_v14, val_main_v12, val_main_v11]
  generalize val_main_v5 (F := Ideal) k = X
  generalize val_main_v0 (F := Ideal) q = Y
  pointwise! [val_main_v13, val_main_cst]

theorem mask_band : ∀ (i : Fin 128) (j : Fin 256), IntOp.andi
        (IntOp.cmpi CmpIPredicate.sge (IntOp.subi (IntOp.addi (BitVec.ofNat 32 i.val) 128#32) (BitVec.ofNat 32 j.val)) 0#32)
        (IntOp.cmpi CmpIPredicate.slt (IntOp.subi (IntOp.addi (BitVec.ofNat 32 i.val) 128#32) (BitVec.ofNat 32 j.val)) 128#32)
      = if i.val < j.val ∧ j.val ≤ i.val + 128 then 1#1 else 0#1 := by decide +kernel
theorem mask_start : ∀ (n : Fin 64) (j : Fin 256), IntOp.cmpi CmpIPredicate.sge
        (IntOp.subi (IntOp.addi (IntOp.muli (BitVec.ofNat 32 n.val) 128#32) (BitVec.ofNat 32 j.val)) 128#32) 0#32
      = if 128 ≤ 128 * n.val + j.val then 1#1 else 0#1 := by decide +kernel

theorem v44_at (n : Fin 64) (i : Fin 128) (j : Fin 256) : val_main_v44 (F := Ideal) (ix3 n i j)
    = if i.val < j.val ∧ j.val ≤ i.val + 128 ∧ 128 ≤ 128 * n.val + j.val then 1#1 else 0#1 := by
  pointwise! [val_main_v44, val_main_v43, val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23, val_main_v22, val_main_v21, val_main_v20,
    val_main_v19, val_main_v18, val_main_v17, val_main_v16, val_main_v15, val_main_c_1, val_main_c_2, val_main_c_3, val_main_c_4, val_main_c_5, val_main_c_6]
  rw [mask_band, mask_start]
  by_cases h : i.val < j.val ∧ j.val ≤ i.val + 128
  · by_cases h' : 128 ≤ 128 * n.val + j.val
    · rw [if_pos h, if_pos h', if_pos ⟨h.1, h.2, h'⟩]; rfl
    · rw [if_pos h, if_neg h', if_neg (fun e => h' e.2.2)]; rfl
  · rw [if_neg h, if_neg (fun e : i.val < j.val ∧ j.val ≤ i.val + 128 ∧ 128 ≤ 128 * n.val + j.val => h ⟨e.1, e.2.1⟩)]
    split <;> rfl

theorem neg_inf : Ideal.ofBits .f32 0xFF800000#32 = ⊥ := by simp [Ideal.ofBits, Ideal.ieee]

theorem v46_at (b : Fin 8) (n : Fin 64) (kh g : Fin 4) (i : Fin 128) (j : Fin 256) : (val_main_v46 (F := Ideal) q k (ix6 b n kh g i j) : EReal) = scoreR q k b n kh g i j := by
  unfold scoreR
  simp only [← v5_at, ← v0_at]
  rw [← v14_at]
  simp only [val_main_v46, val_main_call2_v1, val_main_v45]
  generalize val_main_v14 (F := Ideal) q k = X
  pointwise! [val_main_call2_v2, val_main_call2_v0, val_main_cst_7, v44_at]
  split
  · rfl
  · exact neg_inf

end
end Cert.KernelIdeal.Attn
end
-- ==== Proof.AttnRef.lean ====
module
public import proofs.«01_k».proof.Proof.AttnBand
public import proofs.«01_k».proof.Pre_finite_scores
@[expose] public section
set_option maxRecDepth 16384
noncomputable section

/-! The attention call: what the reference computes, at an index. -/

namespace Cert.KernelIdeal.Attn
open Idealize.ShloMosaic Idealize.ShloMosaic.TcCoe Idealize.SL.Sem
open Cert.Rows
open Cert.ReferenceIdeal.Read

section
variable (sk : Vec Ideal S16 .f32) (q : Vec Ideal S8x8192x16x64 .f32) (k v : Vec Ideal S8x8192x4x64 .f32)
theorem v48_at (b : Fin 8) (n : Fin 64) (kh g : Fin 4) (i : Fin 128) : (val_main_v48 (F := Ideal) q k (ix5 b n kh g i) : EReal)
    = Finset.univ.sup (scoreR q k b n kh g i) := by
  rw [show scoreR q k b n kh g i = fun j => val_main_v46 (F := Ideal) q k (ix6 b n kh g i j) from funext fun j => (v46_at q k b n kh g i j).symm]
  unfold val_main_v48
  generalize val_main_v46 (F := Ideal) q k = X
  refine (Host.reduce_eq_fold_single (FloatOps.maximumf (F := Ideal) (φ := .f32)) X _ _ (by decide) _ _).trans ?_
  have e : val_main_cst_8 (F := Ideal) (Shape.Idx.first Cert.ReferenceIdeal.Gen.h_S_) = (⊥ : EReal) := neg_inf
  rw [e]
  refine (Finset.fold_congr fun j _ => congrArg X ?_ : _ = Finset.fold (FloatOps.maximumf (F := Ideal) (φ := .f32)) (⊥ : EReal) (fun j => X (ix6 b n kh g i j)) Finset.univ)
  exact funext fun a => Fin.ext (by match a with | ⟨0, _⟩ => rfl | ⟨1, _⟩ => rfl | ⟨2, _⟩ => rfl | ⟨3, _⟩ => rfl | ⟨4, _⟩ => rfl | ⟨5, _⟩ => rfl)

theorem v55_at (b : Fin 8) (n : Fin 64) (kh g : Fin 4) (i : Fin 128) : (val_main_v55 (F := Ideal) sk q k (ix5 b n kh g i) : EReal)
    = ∑ j : Fin 256, val_main_v54 (F := Ideal) sk q k (ix6 b n kh g i j) := by
  refine (val_main_v55_apply sk q k _).trans ?_
  have e : val_main_cst_9 (F := Ideal) (Shape.Idx.first Cert.ReferenceIdeal.Gen.h_S_) = (0 : EReal) := Ideal.ofBits_zero .f32
  rw [e, zero_add]
  refine Finset.sum_congr rfl fun j _ => congrArg _ ?_
  exact funext fun a => Fin.ext (by match a with | ⟨0, _⟩ => rfl | ⟨1, _⟩ => rfl | ⟨2, _⟩ => rfl | ⟨3, _⟩ => rfl | ⟨4, _⟩ => rfl | ⟨5, _⟩ => rfl)

theorem v51_at (b : Fin 8) (n : Fin 64) (kh g : Fin 4) (i : Fin 128) : (val_main_v51 (F := Ideal) sk q k (ix6 b n kh g i 0) : EReal)
    = bandTop (scoreR q k b n kh g i) (sk (ix1 ⟨4 * kh.val + g.val, by omega⟩)) := by
  have e0 : (val_main_v49 (F := Ideal) q k (ix6 b n kh g i 0) : EReal) = Finset.univ.sup (scoreR q k b n kh g i) := by
    rw [← v48_at]
    simp only [val_main_v49]
    generalize val_main_v48 (F := Ideal) q k = X
    pointwise!
  have e1 : (val_main_v50 (F := Ideal) sk (ix6 b n kh g i 0) : EReal) = sk (ix1 ⟨4 * kh.val + g.val, by omega⟩) := by
    rw [show (⟨4 * kh.val + g.val, by omega⟩ : Fin 16) = ⟨kh.val * 4 + g.val, by omega⟩ from Fin.ext (by show 4 * kh.val + g.val = kh.val * 4 + g.val; omega)]
    pointwise! [val_main_v50, val_main_v47]
  rw [val_main_v51_apply]
  revert e0 e1
  generalize val_main_v49 (F := Ideal) q k (ix6 b n kh g i 0) = A
  generalize val_main_v50 (F := Ideal) sk (ix6 b n kh g i 0) = B
  unfold bandTop
  rintro e0 e1
  rw [← e0, ← e1]
  rfl

theorem v54_at (b : Fin 8) (n : Fin 64) (kh g : Fin 4) (i : Fin 128) (j : Fin 256) : (val_main_v54 (F := Ideal) sk q k (ix6 b n kh g i j) : EReal)
    = Ideal.exp (scoreR q k b n kh g i j - bandTop (scoreR q k b n kh g i) (sk (ix1 ⟨4 * kh.val + g.val, by omega⟩))) := by
  rw [← v51_at, ← v46_at]
  simp only [val_main_v54, val_main_v53, val_main_v52]
  generalize val_main_v46 (F := Ideal) q k = X
  generalize val_main_v51 (F := Ideal) sk q k = Y
  pointwise!

theorem v60_at (b : Fin 8) (n : Fin 64) (kh g : Fin 4) (i : Fin 128) : (val_main_v60 (F := Ideal) sk q k (ix6 b n kh g i 0) : EReal)
    = bandDen (scoreR q k b n kh g i) (sk (ix1 ⟨4 * kh.val + g.val, by omega⟩)) := by
  unfold bandDen
  simp only [← v54_at]
  rw [← v51_at, ← v55_at, show (⟨4 * kh.val + g.val, by omega⟩ : Fin 16) = ⟨kh.val * 4 + g.val, by omega⟩ from Fin.ext (by show 4 * kh.val + g.val = kh.val * 4 + g.val; omega)]
  simp only [val_main_v60, val_main_v59, val_main_v58, val_main_v57, val_main_v56, val_main_v47]
  generalize val_main_v55 (F := Ideal) sk q k = X
  generalize val_main_v51 (F := Ideal) sk q k = Y
  pointwise!

theorem v10_at (b : Fin 8) (n : Fin 64) (j : Fin 256) (kh : Fin 4) (d : Fin 64) : (val_main_v10 (F := Ideal) v (ix5 b n j kh d) : EReal) = band v b n j kh d :=
  v5_at v b n j kh d

/-- The reference's attention, of a query's component. -/
def attnR (b : Fin 8) (n : Fin 64) (i : Fin 128) (kh g : Fin 4) (e : Fin 64) : EReal :=
  bandCell (scoreR q k b n kh g i) (sk (ix1 ⟨4 * kh.val + g.val, by omega⟩)) (fun j => band v b n j kh e)

theorem v64_at (b : Fin 8) (n : Fin 64) (i : Fin 128) (kh g : Fin 4) (e : Fin 64) : (val_main_v64 (F := Ideal) sk q k v (ix6 b n i kh g e) : EReal)
    = attnR sk q k v b n i kh g e := by
  unfold attnR bandCell
  simp only [← v54_at, ← v10_at]
  rw [← v60_at]
  simp only [val_main_v64, val_main_v63, val_main_v62, val_main_v61]
  generalize val_main_v10 (F := Ideal) v = W
  generalize val_main_v54 (F := Ideal) sk q k = X
  generalize val_main_v60 (F := Ideal) sk q k = Y
  pointwise!

theorem v66_at (T : Fin 65536) (R : Fin 1024) : (val_main_v66 (F := Ideal) sk q k v (ix2 T R) : EReal)
    = attnR sk q k v ⟨T.val / 8192, by omega⟩ ⟨T.val / 128 % 64, by omega⟩ ⟨T.val % 128, by omega⟩ ⟨R.val / 256, by omega⟩ ⟨R.val / 64 % 4, by omega⟩ ⟨R.val % 64, by omega⟩ := by
  rw [← v64_at]
  simp only [val_main_v66, val_main_v65]
  generalize val_main_v64 (F := Ideal) sk q k v = X
  pointwise!
end

section
variable (sk : Vec Ideal S16 .f32) (x : Vec Ideal S65536x1024 .f32) (q : Vec Ideal S8x8192x16x64 .f32) (k v : Vec Ideal S8x8192x4x64 .f32)
  (yh : Vec Ideal S65536x1024 .f32) (ga : Vec Ideal S65536x2048 .f32) (wpa wph wo : Vec Ideal S1024x1024 .f32) (g b : Vec Ideal S1x1024 .f32)

theorem v73_at (T : Fin 65536) (j : Fin 1024) : (val_main_v73 (F := Ideal) sk q k v yh ga wpa wph (ix2 T j) : EReal)
    = gated (fun R => val_main_v66 (F := Ideal) sk q k v (ix2 T R)) (fun k => yh (ix2 T k)) (fun k => wpa (ix2 k j)) (fun k => wph (ix2 k j))
        (ga (ix2 T ⟨j.val, by omega⟩)) (ga (ix2 T ⟨1024 + j.val, by omega⟩)) := by
  simp only [val_main_v73, val_main_v72, val_main_v70, val_main_v69]
  generalize val_main_v66 (F := Ideal) sk q k v = X
  pointwise! [gated, val_main_v67, val_main_v68, val_main_v71]

theorem v77_at (T : Fin 65536) (d : Fin 1024) : (val_main_v77 (F := Ideal) sk x q k v yh ga wpa wph wo (ix2 T d) : EReal)
    = Ideal.ofBits .f32 0x3F9837F0#32 * x (ix2 T d) + ∑ j : Fin 1024, val_main_v73 (F := Ideal) sk q k v yh ga wpa wph (ix2 T j) * wo (ix2 j d) := by
  simp only [val_main_v77, val_main_v76]
  generalize val_main_v73 (F := Ideal) sk q k v yh ga wpa wph = X
  pointwise! [val_main_v75, val_main_v74, val_main_cst_10]

theorem v99_at (T : Fin 65536) (d : Fin 1024) : (val_main_v99 (F := Ideal) sk x q k v yh ga wpa wph wo g b (ix2 T d) : EReal)
    = lnRow (fun d => val_main_v77 (F := Ideal) sk x q k v yh ga wpa wph wo (ix2 T d)) (fun d => g (ix2 0 d)) (fun d => b (ix2 0 d)) d := by
  simp only [val_main_v99, val_main_v98, val_main_v97, val_main_v96, val_main_v95, val_main_v94, val_main_v93, val_main_v92, val_main_v91, val_main_v90, val_main_v89,
    val_main_v88, val_main_v87, val_main_v86, val_main_v85, val_main_v84, val_main_v83, val_main_v82, val_main_v81, val_main_v80, val_main_v79, val_main_v78]
  generalize val_main_v77 (F := Ideal) sk x q k v yh ga wpa wph wo = X
  pointwise! [lnRow, mean, val_main_cst_11, val_main_cst_12, val_main_cst_13, val_main_cst_14, val_main_cst_15]
end
end Cert.KernelIdeal.Attn

end
-- ==== Proof.AttnEq.lean ====
module
public import proofs.«01_k».proof.Proof.AttnRef
@[expose] public section
set_option maxRecDepth 16384
noncomputable section

/-! The attention call: what the reference computes is what the call computes. -/

namespace Cert.KernelIdeal.Attn
open Idealize.ShloMosaic Idealize.ShloMosaic.TcCoe Idealize.SL.Sem
open Cert.Rows
open Cert.ReferenceIdeal.Read

theorem eighth : Ideal.ofBits .f32 0x3E000000#32 = ((1 / 8 : ℝ) : EReal) := by
  simp [Ideal.ofBits, Ideal.ieee]
  have e : (8388608 : ℝ) * (2 ^ 26 : ℝ)⁻¹ = 8⁻¹ := by norm_num
  rw [← e, EReal.coe_mul]

theorem two : Ideal.ofBits .f32 0x40000000#32 = ((2 : ℝ) : EReal) := by
  simp [Ideal.ofBits, Ideal.ieee]
  rw [← EReal.coe_mul]
  exact congrArg Real.toEReal (by norm_num)

theorem log_two : Ideal.log (Ideal.ofBits .f32 0x40000000#32) = ((Real.log 2 : ℝ) : EReal) := by
  rw [two, Ideal.log_coe, if_neg (by norm_num)]

/-- A scaled score is a real number, and the kernel's is the reference's divided by the logarithm of two. -/
theorem scale (K Q : Fin 64 → ℝ) : ∃ r : ℝ, (∑ d, (K d : EReal) * (Q d : EReal)) * Ideal.ofBits .f32 0x3E000000#32 = (r : EReal)
    ∧ ∑ d, (K d : EReal) * Ideal.div ((Q d : EReal) * Ideal.ofBits .f32 0x3E000000#32) (Ideal.log (Ideal.ofBits .f32 0x40000000#32)) = (r : EReal) * (((Real.log 2)⁻¹ : ℝ) : EReal) := by
  have h : Real.log 2 ≠ 0 := (Real.log_pos (by norm_num)).ne'
  refine ⟨(∑ d, K d * Q d) * (1 / 8), ?_, ?_⟩
  · simp only [← EReal.coe_mul, coe_sum, eighth]
  · simp only [log_two, Ideal.div_coe h, eighth, ← EReal.coe_mul, coe_sum, one_div]
    refine congrArg Real.toEReal ?_
    rw [Finset.sum_mul, Finset.sum_mul]
    exact Finset.sum_congr rfl fun d _ => by ring

section
variable (sk : Vec Ideal S16 .f32) (q : Vec Ideal S8x8192x16x64 .f32) (k v : Vec Ideal S8x8192x4x64 .f32)

/-- A key or value of the band's first block, where there is one. -/
theorem band_lo (w : Vec Ideal S8x8192x4x64 .f32) (T : Fin 65536) (i : Fin 128) (kh : Fin 4) (d : Fin 64) (hn : 1 ≤ T.val / 128 % 64) :
    at4 w ⟨128 * (T.val / 128 - 1) + i.val, by omega⟩ kh d = band w ⟨T.val / 8192, by omega⟩ ⟨T.val / 128 % 64, by omega⟩ (lo i) kh d := by
  unfold band at4
  rw [dif_neg (by show ¬ 128 * (T.val / 128 % 64) + i.val < 128; omega)]
  refine congrArg₂ (fun a c => w (ix4 a c kh d)) (Fin.ext ?_) (Fin.ext ?_)
  · show (128 * (T.val / 128 - 1) + i.val) / 8192 = T.val / 8192
    omega
  · show (128 * (T.val / 128 - 1) + i.val) % 8192 = 128 * (T.val / 128 % 64) + i.val - 128
    omega

/-- A key or value of its second block. -/
theorem band_hi (w : Vec Ideal S8x8192x4x64 .f32) (T : Fin 65536) (i : Fin 128) (kh : Fin 4) (d : Fin 64) :
    at4 w ⟨128 * (T.val / 128) + i.val, by omega⟩ kh d = band w ⟨T.val / 8192, by omega⟩ ⟨T.val / 128 % 64, by omega⟩ (hi i) kh d := by
  unfold band at4
  rw [dif_neg (by show ¬ 128 * (T.val / 128 % 64) + (128 + i.val) < 128; omega)]
  refine congrArg₂ (fun a c => w (ix4 a c kh d)) (Fin.ext ?_) (Fin.ext ?_)
  · show (128 * (T.val / 128) + i.val) / 8192 = T.val / 8192
    omega
  · show (128 * (T.val / 128) + i.val) % 8192 = 128 * (T.val / 128 % 64) + (128 + i.val) - 128
    omega

theorem query (T : Fin 65536) (h : Fin 16) (d : Fin 64) :
    q (ix4 ⟨T.val / 8192, by omega⟩ ⟨128 * (T.val / 128 % 64) + T.val % 128, by omega⟩ ⟨4 * (h.val / 4) + h.val % 4, by omega⟩ d) = at4 q T h d := by
  unfold at4
  refine congrArg₂ (fun a c => q (ix4 _ a c d)) (Fin.ext ?_) (Fin.ext ?_)
  · show 128 * (T.val / 128 % 64) + T.val % 128 = T.val % 8192
    omega
  · show 4 * (h.val / 4) + h.val % 4 = h.val
    omega

/-- Real numbers. -/
def AllReal {s : Shape} (w : Vec Ideal s .f32) : Prop := ∀ i, ∃ r : ℝ, w i = (r : EReal)

theorem band_real (hk : AllReal k) (b : Fin 8) (n : Fin 64) (j : Fin 256) (kh : Fin 4) (d : Fin 64) : ∃ r : ℝ, band k b n j kh d = (r : EReal) := by
  unfold band
  split
  · exact ⟨0, rfl⟩
  · exact hk _

/-- The kernel's score against a key of the band. -/
theorem dot_eq (hq : AllReal q) (hk : AllReal k) (T : Fin 65536) (h : Fin 16) (j : Fin 256) :
    ∃ r : ℝ, (∑ d : Fin 64, band k ⟨T.val / 8192, by omega⟩ ⟨T.val / 128 % 64, by omega⟩ j ⟨h.val / 4, by omega⟩ d * at4 q T h d) * Ideal.ofBits .f32 0x3E000000#32 = (r : EReal)
      ∧ ∑ d : Fin 64, band k ⟨T.val / 8192, by omega⟩ ⟨T.val / 128 % 64, by omega⟩ j ⟨h.val / 4, by omega⟩ d * qs q T h d = (r : EReal) * (((Real.log 2)⁻¹ : ℝ) : EReal) := by
  choose K hK using fun d => band_real k hk ⟨T.val / 8192, by omega⟩ ⟨T.val / 128 % 64, by omega⟩ j ⟨h.val / 4, by omega⟩ d
  have hq' : ∀ d, ∃ r : ℝ, at4 q T h d = (r : EReal) := fun d => hq _
  choose Q hQ using hq'
  unfold qs
  simp only [hK, hQ]
  exact scale K Q

/-- The two attentions agree. -/
theorem attn_eq (hs : ∀ h, sk (ix1 h) ≠ (⊤ : EReal)) (hq : AllReal q) (hk : AllReal k) (T : Fin 65536) (h : Fin 16) (e : Fin 64) :
    attn sk q k v T h e = attnR sk q k v ⟨T.val / 8192, by omega⟩ ⟨T.val / 128 % 64, by omega⟩ ⟨T.val % 128, by omega⟩ ⟨h.val / 4, by omega⟩ ⟨h.val % 4, by omega⟩ e := by
  have hx : T.val % 128 < 128 := Nat.mod_lt _ (by decide)
  have eh : (⟨4 * (h.val / 4) + h.val % 4, by omega⟩ : Fin 16) = h := Fin.ext (by show 4 * (h.val / 4) + h.val % 4 = h.val; omega)
  have elo : ∀ i : Fin 128, scoreR q k ⟨T.val / 8192, by omega⟩ ⟨T.val / 128 % 64, by omega⟩ ⟨h.val / 4, by omega⟩ ⟨h.val % 4, by omega⟩ ⟨T.val % 128, by omega⟩ (lo i)
      = if T.val % 128 < i.val ∧ 1 ≤ T.val / 128 % 64 then
          (∑ d : Fin 64, band k ⟨T.val / 8192, by omega⟩ ⟨T.val / 128 % 64, by omega⟩ (lo i) ⟨h.val / 4, by omega⟩ d * at4 q T h d) * Ideal.ofBits .f32 0x3E000000#32 else ⊥ := fun i => by
    unfold scoreR
    simp only [← query]
    refine if_congr ?_ rfl rfl
    show (T.val % 128 < i.val ∧ i.val ≤ T.val % 128 + 128 ∧ 128 ≤ 128 * (T.val / 128 % 64) + i.val) ↔ _
    omega
  have ehi : ∀ i : Fin 128, scoreR q k ⟨T.val / 8192, by omega⟩ ⟨T.val / 128 % 64, by omega⟩ ⟨h.val / 4, by omega⟩ ⟨h.val % 4, by omega⟩ ⟨T.val % 128, by omega⟩ (hi i)
      = if T.val % 128 < i.val then ⊥ else
          (∑ d : Fin 64, band k ⟨T.val / 8192, by omega⟩ ⟨T.val / 128 % 64, by omega⟩ (hi i) ⟨h.val / 4, by omega⟩ d * at4 q T h d) * Ideal.ofBits .f32 0x3E000000#32 := fun i => by
    unfold scoreR
    simp only [← query]
    by_cases hi' : T.val % 128 < i.val
    · rw [if_pos hi', if_neg]
      show ¬ (T.val % 128 < 128 + i.val ∧ 128 + i.val ≤ T.val % 128 + 128 ∧ 128 ≤ 128 * (T.val / 128 % 64) + (128 + i.val))
      omega
    · rw [if_neg hi', if_pos]
      show T.val % 128 < 128 + i.val ∧ 128 + i.val ≤ T.val % 128 + 128 ∧ 128 ≤ 128 * (T.val / 128 % 64) + (128 + i.val)
      omega
  unfold attn attnR
  rw [eh]
  generalize hS : scoreR q k ⟨T.val / 8192, by omega⟩ ⟨T.val / 128 % 64, by omega⟩ ⟨h.val / 4, by omega⟩ ⟨h.val % 4, by omega⟩ ⟨T.val % 128, by omega⟩ = S at elo ehi ⊢
  have hp : ∀ i : Fin 128, (T.val % 128 < i.val ∧ ¬ 1 ≤ T.val / 128 % 64 ∧ pick (T.val % 128) S i = ⊥ ∧ scoreA q k T h i = ⊥)
      ∨ ∃ r : ℝ, pick (T.val % 128) S i = (r : EReal) ∧ scoreA q k T h i = (r : EReal) * (((Real.log 2)⁻¹ : ℝ) : EReal) := fun i => by
    unfold pick scoreA
    by_cases hi' : T.val % 128 < i.val
    · simp only [if_pos hi']
      by_cases hn : 1 ≤ T.val / 128 % 64
      · right
        obtain ⟨r, h1, h2⟩ := dot_eq q k hq hk T h (lo i)
        refine ⟨r, (elo i).trans ((if_pos ⟨hi', hn⟩).trans h1), ?_⟩
        rw [if_neg (by omega), add_zero]
        simp only [band_lo k T i _ _ hn]
        exact h2
      · left
        refine ⟨hi', hn, (elo i).trans (if_neg fun e => hn e.2), ?_⟩
        rw [if_pos (by omega), EReal.add_bot]
    · right
      simp only [if_neg hi']
      obtain ⟨r, h1, h2⟩ := dot_eq q k hq hk T h (hi i)
      refine ⟨r, (ehi i).trans ((if_neg hi').trans h1), ?_⟩
      simp only [band_hi k T i]
      exact h2
  refine cell_eq (T.val % 128) hx _ S _ _ _ _ ?_ ?_ ?_ ?_ ?_ (hs h) ?_ ?_
  · intro i
    rcases hp i with ⟨-, -, h1, h2⟩ | ⟨r, h1, h2⟩
    · rw [h1, h2, EReal.bot_mul_coe_of_pos log2_pos]
    · rw [h1, h2]
  · intro i hi'
    exact (elo i).trans (if_neg fun e => hi' e.1)
  · intro i hi'
    exact (ehi i).trans (if_pos hi')
  · intro i
    rcases hp i with ⟨-, -, h1, -⟩ | ⟨r, h1, -⟩
    · rw [h1]; exact bot_ne_top
    · rw [h1]; exact EReal.coe_ne_top r
  · rcases hp ⟨T.val % 128, hx⟩ with ⟨h1, -⟩ | ⟨r, h1, -⟩
    · exact absurd h1 (lt_irrefl _)
    · exact ⟨r, h1⟩
  · intro i hi'
    by_cases hn : 1 ≤ T.val / 128 % 64
    · exact .inl (band_lo v T i _ e hn)
    · exact .inr ((elo i).trans (if_neg fun e => hn e.2))
  · intro i
    exact band_hi v T i _ e
end

section
variable (sk : Vec Ideal S16 .f32) (x : Vec Ideal S65536x1024 .f32) (q : Vec Ideal S8x8192x16x64 .f32) (k v : Vec Ideal S8x8192x4x64 .f32)
  (yh : Vec Ideal S65536x1024 .f32) (ga : Vec Ideal S65536x2048 .f32) (wpa wph wo : Vec Ideal S1024x1024 .f32) (g b : Vec Ideal S1x1024 .f32)

/-- The precondition, at one entry of an array of numbers below infinity. -/
theorem ne_top_of_lt (v : EReal) (h : FloatOps.cmpf (F := Ideal) (φ := .f32) .olt v (FloatOps.ofBits .f32 0x7F800000#32) = 1#1) : v ≠ ⊤ := by
  have htop : Ideal.ofBits .f32 0x7F800000#32 = ⊤ := by simp [Ideal.ofBits, Ideal.ieee]
  have h : Ideal.cmp .olt v (Ideal.ofBits .f32 0x7F800000#32) = 1#1 := h
  rw [htop] at h
  unfold Ideal.cmp at h
  rintro rfl
  simp at h

/-- At one entry of an array of real numbers. -/
theorem real_of_abs_lt (v : EReal) (h : FloatOps.cmpf (F := Ideal) (φ := .f32) .olt (FloatOps.hostAbsf v) (FloatOps.ofBits .f32 0x7F800000#32) = 1#1) : ∃ r : ℝ, v = (r : EReal) := by
  have h := ne_top_of_lt _ h
  have h : max v (-v) ≠ ⊤ := h
  induction v with
  | bot => simp at h
  | top => simp at h
  | coe r => exact ⟨r, rfl⟩

/-- The precondition's own side conditions. -/
instance facts : Cert.Pre_finite_scores.Facts := ⟨by decide, by decide, by decide⟩

/-- What the reference computes is what the call computes. -/
theorem eq [Cert.Pre_finite_scores.Facts] (h0 : (Cert.Pre_finite_scores.fn (F := Ideal) sk x q k v yh ga wpa wph wo g b).1 = fun _ => 1#1)
    (h1 : (Cert.Pre_finite_scores.fn (F := Ideal) sk x q k v yh ga wpa wph wo g b).2.1 = fun _ => 1#1)
    (h2 : (Cert.Pre_finite_scores.fn (F := Ideal) sk x q k v yh ga wpa wph wo g b).2.2 = fun _ => 1#1) :
    val_main_v99 (F := Ideal) sk x q k v yh ga wpa wph wo g b = result sk x q k v yh ga wpa wph wo g b := by
  have hs : ∀ h, sk (ix1 h) ≠ (⊤ : EReal) := fun h => ne_top_of_lt _ (congrFun h0 (ix1 h))
  have hq : AllReal q := fun i => real_of_abs_lt _ (congrFun h1 i)
  have hk : AllReal k := fun i => real_of_abs_lt _ (congrFun h2 i)
  funext j
  obtain ⟨T, d, rfl⟩ : ∃ (T : Fin 65536) (d : Fin 1024), j = ix2 T d := ⟨_, _, eq_ix2 j⟩
  rw [v99_at]
  show lnRow _ _ _ d = lnRow (sumA x yh ga wpa wph wo (attn sk q k v T) T) _ _ d
  rw [show (fun d => val_main_v77 (F := Ideal) sk x q k v yh ga wpa wph wo (ix2 T d) : Fin 1024 → EReal) = sumA x yh ga wpa wph wo (attn sk q k v T) T from funext fun d => ?_]
  rw [v77_at]
  unfold sumA
  refine congrArg _ (Finset.sum_congr rfl fun j _ => ?_)
  rw [v73_at]
  unfold mergeA
  simp only [v66_at]
  rw [show (fun R : Fin 1024 => attn sk q k v T ⟨R.val / 64, by omega⟩ ⟨R.val % 64, by omega⟩) = _ from funext fun R => attn_eq sk q k v hs hq hk T ⟨R.val / 64, by omega⟩ ⟨R.val % 64, by omega⟩]
  simp only [Nat.div_div_eq_div_mul]
end
end Cert.KernelIdeal.Attn

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.FfnRef
public import proofs.«01_k».proof.Proof.AttnRes
public import proofs.«01_k».proof.Proof.AttnEq
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 1600000 in
/-- The feed-forward call and its reference leave the same array. -/
theorem ffn_algebraic : Cert.algebraic_Kernel2Ideal_Reference2Ideal_pre_finite_inputs := by
  pair_intro
  · run_from Cert.Kernel2Ideal.Gen.run_main m g
  · run_from Cert.Reference2Ideal.Value.run m' g'
    rw [Cert.Reference2Ideal.Read.val_main_v31_eq, Cert.Kernel2Ideal.Ffn.array m c]
    obtain ⟨h0, h1, h2, h3, h4, h5⟩ := hagree c
    rw [h0, h1, h2, h3, h4, h5]
    exact Cert.Kernel2Ideal.Ffn.eq _ _ _ _ _ _ (hpre c).1 (hpre c).2

/-- The feed-forward reference ends with its arguments and its counters as they were. -/
theorem ffn_frame : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

set_option maxHeartbeats 1600000 in
/-- The attention call and its reference leave the same array. -/
theorem attn_algebraic : Cert.algebraic_KernelIdeal_ReferenceIdeal_pre_finite_scores := by
  pair_intro
  · run_from Cert.KernelIdeal.Gen.run_main m g
  · run_from Cert.ReferenceIdeal.Value.run m' g'
    obtain ⟨h0, h1, h2, h3, h4, h5, h6, h7, h8, h9, h10, h11⟩ := hagree c
    rw [← h10, ← h11]
    refine (Cert.ReferenceIdeal.Read.val_main_v99_eq (StableHlo.launchContents m' c)).trans ?_
    rw [Cert.KernelIdeal.Attn.array m c]
    show Cert.ReferenceIdeal.Read.val_main_v99 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3)) (m' (c.tc.loc Cert.ReferenceIdeal.main_arg4))
      (m' (c.tc.loc Cert.ReferenceIdeal.main_arg5)) (m' (c.tc.loc Cert.ReferenceIdeal.main_arg6)) (m' (c.tc.loc Cert.ReferenceIdeal.main_arg7))
      (m' (c.tc.loc Cert.ReferenceIdeal.main_arg8)) (m' (c.tc.loc Cert.ReferenceIdeal.main_arg9)) (m' (c.tc.loc Cert.ReferenceIdeal.main_arg10))
      (m' (c.tc.loc Cert.ReferenceIdeal.main_arg11)) = _
    rw [h0, h1, h2, h3, h4, h5, h6, h7, h8, h9, h10, h11]
    exact Cert.KernelIdeal.Attn.eq _ _ _ _ _ _ _ _ _ _ _ _ (hpre c).1 (hpre c).2.1 (hpre c).2.2

/-- The attention reference ends with its arguments and its counters as they were. -/
theorem attn_frame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The mask and the reciprocal of the logarithm of two are read at the numbers they stand for. -/
theorem attn_preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.KernelIdeal.Attn.facts, Cert.Kernel2Ideal.Ffn.facts,
  fun m g _ => Cert.Kernel.Gen.frame m g, fun m g _ => Cert.KernelIdeal.Gen.frame m g, fun m g _ => Cert.KernelIdeal.Gen.frame m g,
  attn_frame, fun m g _ => attn_frame m g trivial,
  fun m g _ => Cert.Kernel2.Gen.frame m g, fun m g _ => Cert.Kernel2Ideal.Gen.frame m g, fun m g _ => Cert.Kernel2Ideal.Gen.frame m g,
  ffn_frame, fun m g _ => ffn_frame m g trivial, attn_preserves, attn_algebraic, trivial, ffn_algebraic⟩

end Cert.Proof

end
